-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "scale" .f32 0x3BDEE95C#32 ((1 / 147 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x12x50x4 : Shape := ⟨4, ![16, 12, 50, 4]⟩
abbrev S16x2450x4 : Shape := ⟨3, ![16, 2450, 4]⟩
abbrev S4x128x64 : Shape := ⟨3, ![4, 128, 64]⟩
abbrev S4x64 : Shape := ⟨2, ![4, 64]⟩
abbrev S4x64x64 : Shape := ⟨3, ![4, 64, 64]⟩
abbrev S64x64 : Shape := ⟨2, ![64, 64]⟩
abbrev S64 : Shape := ⟨1, ![64]⟩
abbrev S64x4 : Shape := ⟨2, ![64, 4]⟩
abbrev S4 : Shape := ⟨1, ![4]⟩
abbrev S16x2450x3 : Shape := ⟨3, ![16, 2450, 3]⟩
abbrev S16x3x2450 : Shape := ⟨3, ![16, 3, 2450]⟩
abbrev S16x3x50x49 : Shape := ⟨4, ![16, 3, 50, 49]⟩
abbrev S_ : Shape := ⟨0, ![]⟩
abbrev S16x3x50x1 : Shape := ⟨4, ![16, 3, 50, 1]⟩
abbrev S16x3x50x50 : Shape := ⟨4, ![16, 3, 50, 50]⟩
abbrev S50 : Shape := ⟨1, ![50]⟩
abbrev S1x50 : Shape := ⟨2, ![1, 50]⟩
abbrev S50x1 : Shape := ⟨2, ![50, 1]⟩
abbrev S50x50 : Shape := ⟨2, ![50, 50]⟩
abbrev S50x2800 : Shape := ⟨2, ![50, 2800]⟩
abbrev S3x64x64 : Shape := ⟨3, ![3, 64, 64]⟩
abbrev S3x64 : Shape := ⟨2, ![3, 64]⟩
abbrev S3x1x64 : Shape := ⟨3, ![3, 1, 64]⟩
abbrev S16x1x50x4 : Shape := ⟨4, ![16, 1, 50, 4]⟩
abbrev S16x50x4 : Shape := ⟨3, ![16, 50, 4]⟩
abbrev S1x64 : Shape := ⟨2, ![1, 64]⟩
abbrev S1x4 : Shape := ⟨2, ![1, 4]⟩
abbrev S1x50x4 : Shape := ⟨3, ![1, 50, 4]⟩
abbrev S1x3x50x50 : Shape := ⟨4, ![1, 3, 50, 50]⟩
abbrev S1x12x50x4 : Shape := ⟨4, ![1, 12, 50, 4]⟩
abbrev S8x128 : Shape := ⟨2, ![8, 128]⟩
abbrev S1x1x50x50 : Shape := ⟨4, ![1, 1, 50, 50]⟩
abbrev S50x64 : Shape := ⟨2, ![50, 64]⟩
abbrev S50x4 : Shape := ⟨2, ![50, 4]⟩
abbrev S6x64 : Shape := ⟨2, ![6, 64]⟩
abbrev S56x64 : Shape := ⟨2, ![56, 64]⟩
abbrev S1x64x64 : Shape := ⟨3, ![1, 64, 64]⟩
abbrev S1x1x64 : Shape := ⟨3, ![1, 1, 64]⟩
abbrev S50x1x64 : Shape := ⟨3, ![50, 1, 64]⟩
abbrev S1x56x64 : Shape := ⟨3, ![1, 56, 64]⟩
abbrev S50x56x64 : Shape := ⟨3, ![50, 56, 64]⟩
abbrev S2800x64 : Shape := ⟨2, ![2800, 64]⟩
abbrev S1x1x50x4 : Shape := ⟨4, ![1, 1, 50, 4]⟩

abbrev nBuf : Space → Nat
  | .hbm => 86
  | .vmem => 29
  | .smem => 0
  | _ => 0

abbrev bufTy : (tb : Table) → Fin (tcTables nBuf tb) → BufTy
  | .hbm, ⟨0, _⟩ => ⟨S16x12x50x4, .f32⟩
  | .hbm, ⟨1, _⟩ => ⟨S16x2450x4, .f32⟩
  | .hbm, ⟨2, _⟩ => ⟨S4x128x64, .f32⟩
  | .hbm, ⟨3, _⟩ => ⟨S4x64, .f32⟩
  | .hbm, ⟨4, _⟩ => ⟨S4x64x64, .f32⟩
  | .hbm, ⟨5, _⟩ => ⟨S4x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S4x64, .f32⟩
  | .hbm, ⟨10, _⟩ => ⟨S64, .f32⟩
  | .hbm, ⟨11, _⟩ => ⟨S4x64, .f32⟩
  | .hbm, ⟨12, _⟩ => ⟨S64, .f32⟩
  | .hbm, ⟨13, _⟩ => ⟨S4x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x4, .f32⟩
  | .hbm, ⟨20, _⟩ => ⟨S4, .f32⟩
  | .hbm, ⟨21, _⟩ => ⟨S16x2450x3, .f32⟩
  | .hbm, ⟨22, _⟩ => ⟨S16x3x2450, .f32⟩
  | .hbm, ⟨23, _⟩ => ⟨S16x3x50x49, .f32⟩
  | .hbm, ⟨24, _⟩ => ⟨S_, .f32⟩
  | .hbm, ⟨25, _⟩ => ⟨S16x3x50x1, .f32⟩
  | .hbm, ⟨26, _⟩ => ⟨S16x3x50x50, .f32⟩
  | .hbm, ⟨27, _⟩ => ⟨S16x3x50x50, .f32⟩
  | .hbm, ⟨28, _⟩ => ⟨S50, .i32⟩
  | .hbm, ⟨29, _⟩ => ⟨S1x50, .i32⟩
  | .hbm, ⟨30, _⟩ => ⟨S50, .i32⟩
  | .hbm, ⟨31, _⟩ => ⟨S50x1, .i32⟩
  | .hbm, ⟨32, _⟩ => ⟨S50x50, .i32⟩
  | .hbm, ⟨33, _⟩ => ⟨S50x50, .i32⟩
  | .hbm, ⟨34, _⟩ => ⟨S50x50, .i1⟩
  | .hbm, ⟨35, _⟩ => ⟨S_, .f32⟩
  | .hbm, ⟨36, _⟩ => ⟨S_, .f32⟩
  | .hbm, ⟨37, _⟩ => ⟨S16x3x50x50, .i1⟩
  | .hbm, ⟨38, _⟩ => ⟨S16x3x50x50, .f32⟩
  | .hbm, ⟨39, _⟩ => ⟨S16x3x50x50, .f32⟩
  | .hbm, ⟨40, _⟩ => ⟨S50x50, .i32⟩
  | .hbm, ⟨41, _⟩ => ⟨S50x50, .i32⟩
  | .hbm, ⟨42, _⟩ => ⟨S50x50, .i1⟩
  | .hbm, ⟨43, _⟩ => ⟨S_, .f32⟩
  | .hbm, ⟨44, _⟩ => ⟨S_, .f32⟩
  | .hbm, ⟨45, _⟩ => ⟨S16x3x50x50, .i1⟩
  | .hbm, ⟨46, _⟩ => ⟨S16x3x50x50, .f32⟩
  | .hbm, ⟨47, _⟩ => ⟨S16x3x50x50, .f32⟩
  | .hbm, ⟨48, _⟩ => ⟨S16x3x50x50, .f32⟩
  | .hbm, ⟨49, _⟩ => ⟨S16x3x50x50, .f32⟩
  | .hbm, ⟨50, _⟩ => ⟨S50x2800, .i32⟩
  | .hbm, ⟨51, _⟩ => ⟨S50x2800, .i32⟩
  | .hbm, ⟨52, _⟩ => ⟨S_, .i32⟩
  | .hbm, ⟨53, _⟩ => ⟨S50x2800, .i32⟩
  | .hbm, ⟨54, _⟩ => ⟨S50x2800, .i32⟩
  | .hbm, ⟨55, _⟩ => ⟨S50x2800, .i1⟩
  | .hbm, ⟨56, _⟩ => ⟨S_, .f32⟩
  | .hbm, ⟨57, _⟩ => ⟨S_, .f32⟩
  | .hbm, ⟨58, _⟩ => ⟨S50x2800, .f32⟩
  | .hbm, ⟨59, _⟩ => ⟨S50x2800, .f32⟩
  | .hbm, ⟨60, _⟩ => ⟨S50x2800, .f32⟩
  | .hbm, ⟨61, _⟩ => ⟨S_, .i32⟩
  | .hbm, ⟨62, _⟩ => ⟨S50x2800, .i32⟩
  | .hbm, ⟨63, _⟩ => ⟨S50x2800, .i32⟩
  | .hbm, ⟨64, _⟩ => ⟨S50x2800, .i1⟩
  | .hbm, ⟨65, _⟩ => ⟨S_, .f32⟩
  | .hbm, ⟨66, _⟩ => ⟨S_, .f32⟩
  | .hbm, ⟨67, _⟩ => ⟨S50x2800, .f32⟩
  | .hbm, ⟨68, _⟩ => ⟨S50x2800, .f32⟩
  | .hbm, ⟨69, _⟩ => ⟨S50x2800, .f32⟩
  | .hbm, ⟨70, _⟩ => ⟨S3x64x64, .f32⟩
  | .hbm, ⟨71, _⟩ => ⟨S3x64x64, .f32⟩
  | .hbm, ⟨72, _⟩ => ⟨S3x64, .f32⟩
  | .hbm, ⟨73, _⟩ => ⟨S3x1x64, .f32⟩
  | .hbm, ⟨74, _⟩ => ⟨S3x64x64, .f32⟩
  | .hbm, ⟨75, _⟩ => ⟨S3x64, .f32⟩
  | .hbm, ⟨76, _⟩ => ⟨S3x1x64, .f32⟩
  | .hbm, ⟨77, _⟩ => ⟨S16x1x50x4, .f32⟩
  | .hbm, ⟨78, _⟩ => ⟨S16x50x4, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x4, .f32⟩
  | .hbm, ⟨85, _⟩ => ⟨S16x12x50x4, .f32⟩
  | .local _ .vmem, ⟨0, _⟩ => ⟨S1x50x4, .f32⟩
  | .local _ .vmem, ⟨1, _⟩ => ⟨S1x50x4, .f32⟩
  | .local _ .vmem, ⟨2, _⟩ => ⟨S1x3x50x50, .f32⟩
  | .local _ .vmem, ⟨3, _⟩ => ⟨S1x3x50x50, .f32⟩
  | .local _ .vmem, ⟨4, _⟩ => ⟨S50x2800, .f32⟩
  | .local _ .vmem, ⟨5, _⟩ => ⟨S50x2800, .f32⟩
  | .local _ .vmem, ⟨6, _⟩ => ⟨S3x64x64, .f32⟩
  | .local _ .vmem, ⟨7, _⟩ => ⟨S3x64x64, .f32⟩
  | .local _ .vmem, ⟨8, _⟩ => ⟨S3x1x64, .f32⟩
  | .local _ .vmem, ⟨9, _⟩ => ⟨S3x64x64, .f32⟩
  | .local _ .vmem, ⟨10, _⟩ => ⟨S3x1x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S4x64, .f32⟩
  | .local _ .vmem, ⟨15, _⟩ => ⟨S1x64, .f32⟩
  | .local _ .vmem, ⟨16, _⟩ => ⟨S4x64, .f32⟩
  | .local _ .vmem, ⟨17, _⟩ => ⟨S1x64, .f32⟩
  | .local _ .vmem, ⟨18, _⟩ => ⟨S4x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x4, .f32⟩
  | .local _ .vmem, ⟨25, _⟩ => ⟨S1x4, .f32⟩
  | .local _ .vmem, ⟨26, _⟩ => ⟨S1x12x50x4, .f32⟩
  | .local _ .vmem, ⟨27, _⟩ => ⟨S1x12x50x4, .f32⟩
  | .local _ .vmem, ⟨28, _⟩ => ⟨S8x128, .f32⟩
  | _, _ => ⟨S16x12x50x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_2 : Ref sig .tc := ⟨.hbm, 56, rfl⟩
abbrev main_cst_3 : Ref sig .tc := ⟨.hbm, 57, rfl⟩
abbrev main_call2_v0 : Ref sig .tc := ⟨.hbm, 58, rfl⟩
abbrev main_call2_v1 : Ref sig .tc := ⟨.hbm, 59, rfl⟩
abbrev main_v25 : Ref sig .tc := ⟨.hbm, 60, rfl⟩
abbrev main_c_4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_5 : Ref sig .tc := ⟨.hbm, 65, rfl⟩
abbrev main_cst_6 : Ref sig .tc := ⟨.hbm, 66, rfl⟩
abbrev main_call3_v0 : Ref sig .tc := ⟨.hbm, 67, rfl⟩
abbrev main_call3_v1 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg24_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem24_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x50x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x50x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x2800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x2800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x4 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x4 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x12x50x4 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== KernelIdeal.lean ====
variable {F : FTy → Type} [FloatOps F] [Named F]
def κ : String → Option EReal := fun
  | "scale" => some ((1 / 147 : ℝ) : EReal)
  | _ => none
-- ==== ReferenceIdeal.lean ====
abbrev S16x12x50x4 : Shape := ⟨4, ![16, 12, 50, 4]⟩
abbrev S16x2450x4 : Shape := ⟨3, ![16, 2450, 4]⟩
abbrev S4x128x64 : Shape := ⟨3, ![4, 128, 64]⟩
abbrev S4x64 : Shape := ⟨2, ![4, 64]⟩
abbrev S4x64x64 : Shape := ⟨3, ![4, 64, 64]⟩
abbrev S64x64 : Shape := ⟨2, ![64, 64]⟩
abbrev S64 : Shape := ⟨1, ![64]⟩
abbrev S64x4 : Shape := ⟨2, ![64, 4]⟩
abbrev S4 : Shape := ⟨1, ![4]⟩
abbrev S50x49 : Shape := ⟨2, ![50, 49]⟩
abbrev S2450 : Shape := ⟨1, ![2450]⟩
abbrev S_ : Shape := ⟨0, ![]⟩
abbrev S16x50x64 : Shape := ⟨3, ![16, 50, 64]⟩
abbrev S16x1x50x4 : Shape := ⟨4, ![16, 1, 50, 4]⟩
abbrev S16x50x4 : Shape := ⟨3, ![16, 50, 4]⟩
abbrev S12x16x50x4 : Shape := ⟨4, ![12, 16, 50, 4]⟩
abbrev S2450x1 : Shape := ⟨2, ![2450, 1]⟩
abbrev S16x2450x64 : Shape := ⟨3, ![16, 2450, 64]⟩
abbrev S16x2450x128 : Shape := ⟨3, ![16, 2450, 128]⟩
abbrev S1x128x64 : Shape := ⟨3, ![1, 128, 64]⟩
abbrev S128x64 : Shape := ⟨2, ![128, 64]⟩
abbrev S1x64 : Shape := ⟨2, ![1, 64]⟩
abbrev S1x1x64 : Shape := ⟨3, ![1, 1, 64]⟩
abbrev S1x64x64 : Shape := ⟨3, ![1, 64, 64]⟩
abbrev S16x2450x1 : Shape := ⟨3, ![16, 2450, 1]⟩
abbrev S50x64 : Shape := ⟨2, ![50, 64]⟩
abbrev S1x1x4 : Shape := ⟨3, ![1, 1, 4]⟩
abbrev S1x16x50x4 : Shape := ⟨4, ![1, 16, 50, 4]⟩

abbrev nBuf : Space → Nat
  | .hbm => 238
  | .vmem => 0
  | .smem => 0
  | _ => 0

abbrev hbmTy0_0 (i : Nat) : BufTy := match i % 128 with
  | 0 => ⟨S16x12x50x4, .f32⟩
  | 1 => ⟨S16x2450x4, .f32⟩
  | 2 => ⟨S4x128x64, .f32⟩
  | 3 => ⟨S4x64, .f32⟩
  | 4 => ⟨S4x64x64, .f32⟩
  | 5 => ⟨S4x64, .f32⟩
  | 6 => ⟨S64x64, .f32⟩
  | 7 => ⟨S64x64, .f32⟩
  | 8 => ⟨S64x64, .f32⟩
  | 9 => ⟨S4x64, .f32⟩
  | 10 => ⟨S64, .f32⟩
  | 11 => ⟨S4x64, .f32⟩
  | 12 => ⟨S64, .f32⟩
  | 13 => ⟨S4x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x4, .f32⟩
  | 20 => ⟨S4, .f32⟩
  | 21 => ⟨S50x49, .i32⟩
  | 22 => ⟨S50x49, .i32⟩
  | 23 => ⟨S2450, .i32⟩
  | 24 => ⟨S50x49, .i1⟩
  | 25 => ⟨S_, .i32⟩
  | 26 => ⟨S50x49, .i32⟩
  | 27 => ⟨S50x49, .i32⟩
  | 28 => ⟨S50x49, .i32⟩
  | 29 => ⟨S2450, .i32⟩
  | 30 => ⟨S_, .f32⟩
  | 31 => ⟨S16x50x64, .f32⟩
  | 32 => ⟨S16x1x50x4, .f32⟩
  | 33 => ⟨S16x50x4, .f32⟩
  | 34 => ⟨S_, .f32⟩
  | 35 => ⟨S12x16x50x4, .f32⟩
  | 36 => ⟨S_, .i32⟩
  | 37 => ⟨S2450, .i32⟩
  | 38 => ⟨S2450, .i32⟩
  | 39 => ⟨S4x128x64, .f32⟩
  | 40 => ⟨S4x64, .f32⟩
  | 41 => ⟨S4x64x64, .f32⟩
  | 42 => ⟨S4x64, .f32⟩
  | 43 => ⟨S16x2450x4, .f32⟩
  | 44 => ⟨S4x64, .f32⟩
  | 45 => ⟨S64, .f32⟩
  | 46 => ⟨S64x64, .f32⟩
  | 47 => ⟨S4x64, .f32⟩
  | 48 => ⟨S64, .f32⟩
  | 49 => ⟨S64x64, .f32⟩
  | 50 => ⟨S4x64, .f32⟩
  | 51 => ⟨S64, .f32⟩
  | 52 => ⟨S64x64, .f32⟩
  | 53 => ⟨S64x64, .f32⟩
  | 54 => ⟨S64, .f32⟩
  | 55 => ⟨S64x64, .f32⟩
  | 56 => ⟨S64, .f32⟩
  | 57 => ⟨S64x4, .f32⟩
  | 58 => ⟨S4, .f32⟩
  | 59 => ⟨S_, .i32⟩
  | 60 => ⟨S16x50x64, .f32⟩
  | 61 => ⟨S16x50x4, .f32⟩
  | 62 => ⟨S12x16x50x4, .f32⟩
  | 63 => ⟨S_, .i32⟩
  | 64 => ⟨S_, .i1⟩
  | 65 => ⟨S_, .i32⟩
  | 66 => ⟨S2450, .i32⟩
  | 67 => ⟨S2450, .i1⟩
  | 68 => ⟨S_, .i32⟩
  | 69 => ⟨S2450, .i32⟩
  | 70 => ⟨S2450, .i32⟩
  | 71 => ⟨S2450, .i32⟩
  | 72 => ⟨S2450x1, .i32⟩
  | 73 => ⟨S16x2450x64, .f32⟩
  | 74 => ⟨S_, .i32⟩
  | 75 => ⟨S2450, .i32⟩
  | 76 => ⟨S2450, .i1⟩
  | 77 => ⟨S_, .i32⟩
  | 78 => ⟨S2450, .i32⟩
  | 79 => ⟨S2450, .i32⟩
  | 80 => ⟨S2450, .i32⟩
  | 81 => ⟨S2450x1, .i32⟩
  | 82 => ⟨S16x2450x64, .f32⟩
  | 83 => ⟨S16x2450x128, .f32⟩
  | 84 => ⟨S_, .f32⟩
  | 85 => ⟨S16x2450x64, .f32⟩
  | 86 => ⟨S1x128x64, .f32⟩
  | 87 => ⟨S128x64, .f32⟩
  | 88 => ⟨S16x2450x64, .f32⟩
  | 89 => ⟨S1x64, .f32⟩
  | 90 => ⟨S64, .f32⟩
  | 91 => ⟨S1x1x64, .f32⟩
  | 92 => ⟨S16x2450x64, .f32⟩
  | 93 => ⟨S16x2450x64, .f32⟩
  | 94 => ⟨S16x2450x64, .f32⟩
  | 95 => ⟨S1x64x64, .f32⟩
  | 96 => ⟨S64x64, .f32⟩
  | 97 => ⟨S16x2450x64, .f32⟩
  | 98 => ⟨S1x64, .f32⟩
  | 99 => ⟨S64, .f32⟩
  | 100 => ⟨S1x1x64, .f32⟩
  | 101 => ⟨S16x2450x64, .f32⟩
  | 102 => ⟨S16x2450x64, .f32⟩
  | 103 => ⟨S16x2450x64, .f32⟩
  | 104 => ⟨S16x2450x1, .f32⟩
  | 105 => ⟨S16x2450x64, .f32⟩
  | 106 => ⟨S16x2450x64, .f32⟩
  | 107 => ⟨S_, .f32⟩
  | 108 => ⟨S16x2450x64, .f32⟩
  | 109 => ⟨S16x2450x64, .f32⟩
  | 110 => ⟨S16x2450x64, .f32⟩
  | 111 => ⟨S1x128x64, .f32⟩
  | 112 => ⟨S128x64, .f32⟩
  | 113 => ⟨S16x2450x64, .f32⟩
  | 114 => ⟨S1x64, .f32⟩
  | 115 => ⟨S64, .f32⟩
  | 116 => ⟨S1x1x64, .f32⟩
  | 117 => ⟨S16x2450x64, .f32⟩
  | 118 => ⟨S16x2450x64, .f32⟩
  | 119 => ⟨S16x2450x64, .f32⟩
  | 120 => ⟨S1x64x64, .f32⟩
  | 121 => ⟨S64x64, .f32⟩
  | 122 => ⟨S16x2450x64, .f32⟩
  | 123 => ⟨S1x64, .f32⟩
  | 124 => ⟨S64, .f32⟩
  | 125 => ⟨S1x1x64, .f32⟩
  | 126 => ⟨S16x2450x64, .f32⟩
  | 127 => ⟨S16x2450x64, .f32⟩
  | _ => ⟨S16x12x50x4, .f32⟩

abbrev hbmTy0_1 (i : Nat) : BufTy := match i % 128 with
  | 0 => ⟨S16x2450x64, .f32⟩
  | 1 => ⟨S16x2450x1, .f32⟩
  | 2 => ⟨S16x2450x64, .f32⟩
  | 3 => ⟨S16x2450x64, .f32⟩
  | 4 => ⟨S_, .f32⟩
  | 5 => ⟨S16x2450x64, .f32⟩
  | 6 => ⟨S16x2450x64, .f32⟩
  | 7 => ⟨S16x2450x64, .f32⟩
  | 8 => ⟨S1x128x64, .f32⟩
  | 9 => ⟨S128x64, .f32⟩
  | 10 => ⟨S16x2450x64, .f32⟩
  | 11 => ⟨S1x64, .f32⟩
  | 12 => ⟨S64, .f32⟩
  | 13 => ⟨S1x1x64, .f32⟩
  | 14 => ⟨S16x2450x64, .f32⟩
  | 15 => ⟨S16x2450x64, .f32⟩
  | 16 => ⟨S16x2450x64, .f32⟩
  | 17 => ⟨S1x64x64, .f32⟩
  | 18 => ⟨S64x64, .f32⟩
  | 19 => ⟨S16x2450x64, .f32⟩
  | 20 => ⟨S1x64, .f32⟩
  | 21 => ⟨S64, .f32⟩
  | 22 => ⟨S1x1x64, .f32⟩
  | 23 => ⟨S16x2450x64, .f32⟩
  | 24 => ⟨S16x2450x64, .f32⟩
  | 25 => ⟨S16x2450x64, .f32⟩
  | 26 => ⟨S16x2450x1, .f32⟩
  | 27 => ⟨S16x2450x64, .f32⟩
  | 28 => ⟨S16x2450x64, .f32⟩
  | 29 => ⟨S_, .f32⟩
  | 30 => ⟨S16x2450x64, .f32⟩
  | 31 => ⟨S16x2450x64, .f32⟩
  | 32 => ⟨S16x2450x64, .f32⟩
  | 33 => ⟨S_, .f32⟩
  | 34 => ⟨S50x64, .f32⟩
  | 35 => ⟨S2450x1, .i32⟩
  | 36 => ⟨S16x50x64, .f32⟩
  | 37 => ⟨S16x50x64, .f32⟩
  | 38 => ⟨S_, .f32⟩
  | 39 => ⟨S16x50x64, .f32⟩
  | 40 => ⟨S16x50x64, .f32⟩
  | 41 => ⟨S16x50x64, .f32⟩
  | 42 => ⟨S1x1x64, .f32⟩
  | 43 => ⟨S16x50x64, .f32⟩
  | 44 => ⟨S16x50x64, .f32⟩
  | 45 => ⟨S16x50x64, .f32⟩
  | 46 => ⟨S16x50x64, .f32⟩
  | 47 => ⟨S16x50x64, .f32⟩
  | 48 => ⟨S16x50x64, .f32⟩
  | 49 => ⟨S_, .f32⟩
  | 50 => ⟨S16x50x64, .f32⟩
  | 51 => ⟨S16x50x64, .f32⟩
  | 52 => ⟨S_, .f32⟩
  | 53 => ⟨S16x50x64, .f32⟩
  | 54 => ⟨S16x50x64, .f32⟩
  | 55 => ⟨S16x50x64, .f32⟩
  | 56 => ⟨S1x1x64, .f32⟩
  | 57 => ⟨S16x50x64, .f32⟩
  | 58 => ⟨S16x50x64, .f32⟩
  | 59 => ⟨S16x50x64, .f32⟩
  | 60 => ⟨S16x50x64, .f32⟩
  | 61 => ⟨S16x50x64, .f32⟩
  | 62 => ⟨S16x50x64, .f32⟩
  | 63 => ⟨S_, .f32⟩
  | 64 => ⟨S16x50x64, .f32⟩
  | 65 => ⟨S16x50x64, .f32⟩
  | 66 => ⟨S_, .f32⟩
  | 67 => ⟨S16x50x64, .f32⟩
  | 68 => ⟨S16x50x64, .f32⟩
  | 69 => ⟨S16x50x64, .f32⟩
  | 70 => ⟨S1x1x64, .f32⟩
  | 71 => ⟨S16x50x64, .f32⟩
  | 72 => ⟨S16x50x64, .f32⟩
  | 73 => ⟨S16x50x64, .f32⟩
  | 74 => ⟨S16x50x64, .f32⟩
  | 75 => ⟨S16x50x64, .f32⟩
  | 76 => ⟨S16x50x64, .f32⟩
  | 77 => ⟨S_, .f32⟩
  | 78 => ⟨S16x50x64, .f32⟩
  | 79 => ⟨S16x50x64, .f32⟩
  | 80 => ⟨S16x50x64, .f32⟩
  | 81 => ⟨S16x50x64, .f32⟩
  | 82 => ⟨S16x50x64, .f32⟩
  | 83 => ⟨S16x50x64, .f32⟩
  | 84 => ⟨S1x1x64, .f32⟩
  | 85 => ⟨S16x50x64, .f32⟩
  | 86 => ⟨S16x50x64, .f32⟩
  | 87 => ⟨S_, .f32⟩
  | 88 => ⟨S16x50x64, .f32⟩
  | 89 => ⟨S16x50x64, .f32⟩
  | 90 => ⟨S16x50x64, .f32⟩
  | 91 => ⟨S1x1x64, .f32⟩
  | 92 => ⟨S16x50x64, .f32⟩
  | 93 => ⟨S16x50x64, .f32⟩
  | 94 => ⟨S_, .f32⟩
  | 95 => ⟨S16x50x64, .f32⟩
  | 96 => ⟨S16x50x64, .f32⟩
  | 97 => ⟨S16x50x4, .f32⟩
  | 98 => ⟨S1x1x4, .f32⟩
  | 99 => ⟨S16x50x4, .f32⟩
  | 100 => ⟨S16x50x4, .f32⟩
  | 101 => ⟨S16x50x4, .f32⟩
  | 102 => ⟨S1x16x50x4, .f32⟩
  | 103 => ⟨S_, .i32⟩
  | 104 => ⟨S_, .i32⟩
  | 105 => ⟨S_, .i32⟩
  | 106 => ⟨S12x16x50x4, .f32⟩
  | 107 => ⟨S_, .i32⟩
  | 108 => ⟨S_, .i32⟩
  | 109 => ⟨S16x12x50x4, .f32⟩
  | _ => ⟨S16x12x50x4, .f32⟩

abbrev hbmTy (i : Nat) : BufTy := match i / 128 with
  | 0 => hbmTy0_0 i
  | 1 => hbmTy0_1 i
  | _ => ⟨S16x12x50x4, .f32⟩

abbrev bufTy : (tb : Table) → Fin (tcTables nBuf tb) → BufTy
  | .hbm, ⟨i, _⟩ => hbmTy i
  | _, _ => ⟨S16x12x50x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_c_1 : Ref sig .tc := ⟨.hbm, 36, rfl⟩
abbrev main_v12_0 : Ref sig .tc := ⟨.hbm, 37, rfl⟩
abbrev main_v12_1 : Ref sig .tc := ⟨.hbm, 38, rfl⟩
abbrev main_v12_2 : Ref sig .tc := ⟨.hbm, 39, rfl⟩
abbrev main_v12_3 : Ref sig .tc := ⟨.hbm, 40, rfl⟩
abbrev main_v12_4 : Ref sig .tc := ⟨.hbm, 41, rfl⟩
abbrev main_v12_5 : Ref sig .tc := ⟨.hbm, 42, rfl⟩
abbrev main_v12_6 : Ref sig .tc := ⟨.hbm, 43, rfl⟩
abbrev main_v12_7 : Ref sig .tc := ⟨.hbm, 44, rfl⟩
abbrev main_v12_8 : Ref sig .tc := ⟨.hbm, 45, rfl⟩
abbrev main_v12_9 : Ref sig .tc := ⟨.hbm, 46, rfl⟩
abbrev main_v12_10 : Ref sig .tc := ⟨.hbm, 47, rfl⟩
abbrev main_v12_11 : Ref sig .tc := ⟨.hbm, 48, rfl⟩
abbrev main_v12_12 : Ref sig .tc := ⟨.hbm, 49, rfl⟩
abbrev main_v12_13 : Ref sig .tc := ⟨.hbm, 50, rfl⟩
abbrev main_v12_14 : Ref sig .tc := ⟨.hbm, 51, rfl⟩
abbrev main_v12_15 : Ref sig .tc := ⟨.hbm, 52, rfl⟩
abbrev main_v12_16 : Ref sig .tc := ⟨.hbm, 53, rfl⟩
abbrev main_v12_17 : Ref sig .tc := ⟨.hbm, 54, rfl⟩
abbrev main_v12_18 : Ref sig .tc := ⟨.hbm, 55, rfl⟩
abbrev main_v12_19 : Ref sig .tc := ⟨.hbm, 56, rfl⟩
abbrev main_v12_20 : Ref sig .tc := ⟨.hbm, 57, rfl⟩
abbrev main_v12_21 : Ref sig .tc := ⟨.hbm, 58, rfl⟩
abbrev main_v12_22 : Ref sig .tc := ⟨.hbm, 59, rfl⟩
abbrev main_v12_23 : Ref sig .tc := ⟨.hbm, 60, rfl⟩
abbrev main_v12_24 : Ref sig .tc := ⟨.hbm, 61, rfl⟩
abbrev main_v12_25 : Ref sig .tc := ⟨.hbm, 62, rfl⟩
abbrev main_while0c_c_27 : Ref sig .tc := ⟨.hbm, 63, rfl⟩
abbrev main_while0c_v14 : Ref sig .tc := ⟨.hbm, 64, rfl⟩
abbrev main_while0b_c_27 : Ref sig .tc := ⟨.hbm, 65, rfl⟩
abbrev main_while0b_v14 : Ref sig .tc := ⟨.hbm, 66, rfl⟩
abbrev main_while0b_v15 : Ref sig .tc := ⟨.hbm, 67, rfl⟩
abbrev main_while0b_c_28 : Ref sig .tc := ⟨.hbm, 68, rfl⟩
abbrev main_while0b_v16 : Ref sig .tc := ⟨.hbm, 69, rfl⟩
abbrev main_while0b_v17 : Ref sig .tc := ⟨.hbm, 70, rfl⟩
abbrev main_while0b_v18 : Ref sig .tc := ⟨.hbm, 71, rfl⟩
abbrev main_while0b_v19 : Ref sig .tc := ⟨.hbm, 72, rfl⟩
abbrev main_while0b_v20 : Ref sig .tc := ⟨.hbm, 73, rfl⟩
abbrev main_while0b_c_29 : Ref sig .tc := ⟨.hbm, 74, rfl⟩
abbrev main_while0b_v21 : Ref sig .tc := ⟨.hbm, 75, rfl⟩
abbrev main_while0b_v22 : Ref sig .tc := ⟨.hbm, 76, rfl⟩
abbrev main_while0b_c_30 : Ref sig .tc := ⟨.hbm, 77, rfl⟩
abbrev main_while0b_v23 : Ref sig .tc := ⟨.hbm, 78, rfl⟩
abbrev main_while0b_v24 : Ref sig .tc := ⟨.hbm, 79, rfl⟩
abbrev main_while0b_v25 : Ref sig .tc := ⟨.hbm, 80, rfl⟩
abbrev main_while0b_v26 : Ref sig .tc := ⟨.hbm, 81, rfl⟩
abbrev main_while0b_v27 : Ref sig .tc := ⟨.hbm, 82, rfl⟩
abbrev main_while0b_v28 : Ref sig .tc := ⟨.hbm, 83, rfl⟩
abbrev main_while0b_cst_31 : Ref sig .tc := ⟨.hbm, 84, rfl⟩
abbrev main_while0b_v29 : Ref sig .tc := ⟨.hbm, 85, rfl⟩
abbrev main_while0b_v30 : Ref sig .tc := ⟨.hbm, 86, rfl⟩
abbrev main_while0b_v31 : Ref sig .tc := ⟨.hbm, 87, rfl⟩
abbrev main_while0b_v32 : Ref sig .tc := ⟨.hbm, 88, rfl⟩
abbrev main_while0b_v33 : Ref sig .tc := ⟨.hbm, 89, rfl⟩
abbrev main_while0b_v34 : Ref sig .tc := ⟨.hbm, 90, rfl⟩
abbrev main_while0b_v35 : Ref sig .tc := ⟨.hbm, 91, rfl⟩
abbrev main_while0b_v36 : Ref sig .tc := ⟨.hbm, 92, rfl⟩
abbrev main_while0b_v37 : Ref sig .tc := ⟨.hbm, 93, rfl⟩
abbrev main_while0b_v38 : Ref sig .tc := ⟨.hbm, 94, rfl⟩
abbrev main_while0b_v39 : Ref sig .tc := ⟨.hbm, 95, rfl⟩
abbrev main_while0b_v40 : Ref sig .tc := ⟨.hbm, 96, rfl⟩
abbrev main_while0b_v41 : Ref sig .tc := ⟨.hbm, 97, rfl⟩
abbrev main_while0b_v42 : Ref sig .tc := ⟨.hbm, 98, rfl⟩
abbrev main_while0b_v43 : Ref sig .tc := ⟨.hbm, 99, rfl⟩
abbrev main_while0b_v44 : Ref sig .tc := ⟨.hbm, 100, rfl⟩
abbrev main_while0b_v45 : Ref sig .tc := ⟨.hbm, 101, rfl⟩
abbrev main_while0b_v46 : Ref sig .tc := ⟨.hbm, 102, rfl⟩
abbrev main_while0b_v47 : Ref sig .tc := ⟨.hbm, 103, rfl⟩
abbrev main_while0b_v48 : Ref sig .tc := ⟨.hbm, 104, rfl⟩
abbrev main_while0b_v49 : Ref sig .tc := ⟨.hbm, 105, rfl⟩
abbrev main_while0b_v50 : Ref sig .tc := ⟨.hbm, 106, rfl⟩
abbrev main_while0b_cst_32 : Ref sig .tc := ⟨.hbm, 107, rfl⟩
abbrev main_while0b_v51 : Ref sig .tc := ⟨.hbm, 108, rfl⟩
abbrev main_while0b_v52 : Ref sig .tc := ⟨.hbm, 109, rfl⟩
abbrev main_while0b_v53 : Ref sig .tc := ⟨.hbm, 110, rfl⟩
abbrev main_while0b_v54 : Ref sig .tc := ⟨.hbm, 111, rfl⟩
abbrev main_while0b_v55 : Ref sig .tc := ⟨.hbm, 112, rfl⟩
abbrev main_while0b_v56 : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_v71 : Ref sig .tc := ⟨.hbm, 128, rfl⟩
abbrev main_while0b_v72 : Ref sig .tc := ⟨.hbm, 129, rfl⟩
abbrev main_while0b_v73 : Ref sig .tc := ⟨.hbm, 130, rfl⟩
abbrev main_while0b_v74 : Ref sig .tc := ⟨.hbm, 131, rfl⟩
abbrev main_while0b_cst_33 : Ref sig .tc := ⟨.hbm, 132, rfl⟩
abbrev main_while0b_v75 : Ref sig .tc := ⟨.hbm, 133, rfl⟩
abbrev main_while0b_v76 : Ref sig .tc := ⟨.hbm, 134, rfl⟩
abbrev main_while0b_v77 : Ref sig .tc := ⟨.hbm, 135, rfl⟩
abbrev main_while0b_v78 : Ref sig .tc := ⟨.hbm, 136, rfl⟩
abbrev main_while0b_v79 : Ref sig .tc := ⟨.hbm, 137, rfl⟩
abbrev main_while0b_v80 : Ref sig .tc := ⟨.hbm, 138, rfl⟩
abbrev main_while0b_v81 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_v86 : Ref sig .tc := ⟨.hbm, 144, rfl⟩
abbrev main_while0b_v87 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_v94 : Ref sig .tc := ⟨.hbm, 152, rfl⟩
abbrev main_while0b_v95 : Ref sig .tc := ⟨.hbm, 153, rfl⟩
abbrev main_while0b_v96 : Ref sig .tc := ⟨.hbm, 154, rfl⟩
abbrev main_while0b_v97 : Ref sig .tc := ⟨.hbm, 155, rfl⟩
abbrev main_while0b_v98 : Ref sig .tc := ⟨.hbm, 156, rfl⟩
abbrev main_while0b_cst_34 : Ref sig .tc := ⟨.hbm, 157, rfl⟩
abbrev main_while0b_v99 : Ref sig .tc := ⟨.hbm, 158, rfl⟩
abbrev main_while0b_v100 : Ref sig .tc := ⟨.hbm, 159, rfl⟩
abbrev main_while0b_v101 : Ref sig .tc := ⟨.hbm, 160, rfl⟩
abbrev main_while0b_cst_35 : Ref sig .tc := ⟨.hbm, 161, rfl⟩
abbrev main_while0b_v102 : Ref sig .tc := ⟨.hbm, 162, rfl⟩
abbrev main_while0b_v103 : Ref sig .tc := ⟨.hbm, 163, rfl⟩
abbrev main_while0b_v104 : Ref sig .tc := ⟨.hbm, 164, rfl⟩
abbrev main_while0b_v105 : Ref sig .tc := ⟨.hbm, 165, rfl⟩
abbrev main_while0b_cst_36 : Ref sig .tc := ⟨.hbm, 166, rfl⟩
abbrev main_while0b_v106 : Ref sig .tc := ⟨.hbm, 167, rfl⟩
abbrev main_while0b_v107 : Ref sig .tc := ⟨.hbm, 168, rfl⟩
abbrev main_while0b_v108 : Ref sig .tc := ⟨.hbm, 169, rfl⟩
abbrev main_while0b_v109 : Ref sig .tc := ⟨.hbm, 170, rfl⟩
abbrev main_while0b_v110 : Ref sig .tc := ⟨.hbm, 171, rfl⟩
abbrev main_while0b_v111 : Ref sig .tc := ⟨.hbm, 172, rfl⟩
abbrev main_while0b_v112 : Ref sig .tc := ⟨.hbm, 173, rfl⟩
abbrev main_while0b_v113 : Ref sig .tc := ⟨.hbm, 174, rfl⟩
abbrev main_while0b_v114 : Ref sig .tc := ⟨.hbm, 175, rfl⟩
abbrev main_while0b_v115 : Ref sig .tc := ⟨.hbm, 176, rfl⟩
abbrev main_while0b_cst_37 : Ref sig .tc := ⟨.hbm, 177, rfl⟩
abbrev main_while0b_v116 : Ref sig .tc := ⟨.hbm, 178, rfl⟩
abbrev main_while0b_v117 : Ref sig .tc := ⟨.hbm, 179, rfl⟩
abbrev main_while0b_cst_38 : Ref sig .tc := ⟨.hbm, 180, rfl⟩
abbrev main_while0b_v118 : Ref sig .tc := ⟨.hbm, 181, rfl⟩
abbrev main_while0b_v119 : Ref sig .tc := ⟨.hbm, 182, rfl⟩
abbrev main_while0b_v120 : Ref sig .tc := ⟨.hbm, 183, rfl⟩
abbrev main_while0b_v121 : Ref sig .tc := ⟨.hbm, 184, rfl⟩
abbrev main_while0b_v122 : Ref sig .tc := ⟨.hbm, 185, rfl⟩
abbrev main_while0b_v123 : Ref sig .tc := ⟨.hbm, 186, rfl⟩
abbrev main_while0b_v124 : Ref sig .tc := ⟨.hbm, 187, rfl⟩
abbrev main_while0b_v125 : Ref sig .tc := ⟨.hbm, 188, rfl⟩
abbrev main_while0b_v126 : Ref sig .tc := ⟨.hbm, 189, rfl⟩
abbrev main_while0b_v127 : Ref sig .tc := ⟨.hbm, 190, rfl⟩
abbrev main_while0b_cst_39 : Ref sig .tc := ⟨.hbm, 191, rfl⟩
abbrev main_while0b_v128 : Ref sig .tc := ⟨.hbm, 192, rfl⟩
abbrev main_while0b_v129 : Ref sig .tc := ⟨.hbm, 193, rfl⟩
abbrev main_while0b_cst_40 : Ref sig .tc := ⟨.hbm, 194, rfl⟩
abbrev main_while0b_v130 : Ref sig .tc := ⟨.hbm, 195, rfl⟩
abbrev main_while0b_v131 : Ref sig .tc := ⟨.hbm, 196, rfl⟩
abbrev main_while0b_v132 : Ref sig .tc := ⟨.hbm, 197, rfl⟩
abbrev main_while0b_v133 : Ref sig .tc := ⟨.hbm, 198, rfl⟩
abbrev main_while0b_v134 : Ref sig .tc := ⟨.hbm, 199, rfl⟩
abbrev main_while0b_v135 : Ref sig .tc := ⟨.hbm, 200, rfl⟩
abbrev main_while0b_v136 : Ref sig .tc := ⟨.hbm, 201, rfl⟩
abbrev main_while0b_v137 : Ref sig .tc := ⟨.hbm, 202, rfl⟩
abbrev main_while0b_v138 : Ref sig .tc := ⟨.hbm, 203, rfl⟩
abbrev main_while0b_v139 : Ref sig .tc := ⟨.hbm, 204, rfl⟩
abbrev main_while0b_cst_41 : Ref sig .tc := ⟨.hbm, 205, rfl⟩
abbrev main_while0b_v140 : Ref sig .tc := ⟨.hbm, 206, rfl⟩
abbrev main_while0b_v141 : Ref sig .tc := ⟨.hbm, 207, rfl⟩
abbrev main_while0b_v142 : Ref sig .tc := ⟨.hbm, 208, rfl⟩
abbrev main_while0b_v143 : Ref sig .tc := ⟨.hbm, 209, rfl⟩
abbrev main_while0b_v144 : Ref sig .tc := ⟨.hbm, 210, rfl⟩
abbrev main_while0b_v145 : Ref sig .tc := ⟨.hbm, 211, rfl⟩
abbrev main_while0b_v146 : Ref sig .tc := ⟨.hbm, 212, rfl⟩
abbrev main_while0b_v147 : Ref sig .tc := ⟨.hbm, 213, rfl⟩
abbrev main_while0b_v148 : Ref sig .tc := ⟨.hbm, 214, rfl⟩
abbrev main_while0b_call0_cst : Ref sig .tc := ⟨.hbm, 215, rfl⟩
abbrev main_while0b_call0_v0 : Ref sig .tc := ⟨.hbm, 216, rfl⟩
abbrev main_while0b_v149 : Ref sig .tc := ⟨.hbm, 217, rfl⟩
abbrev main_while0b_v150 : Ref sig .tc := ⟨.hbm, 218, rfl⟩
abbrev main_while0b_v151 : Ref sig .tc := ⟨.hbm, 219, rfl⟩
abbrev main_while0b_v152 : Ref sig .tc := ⟨.hbm, 220, rfl⟩
abbrev main_while0b_v153 : Ref sig .tc := ⟨.hbm, 221, rfl⟩
abbrev main_while0b_call1_cst : Ref sig .tc := ⟨.hbm, 222, rfl⟩
abbrev main_while0b_call1_v0 : Ref sig .tc := ⟨.hbm, 223, rfl⟩
abbrev main_while0b_v154 : Ref sig .tc := ⟨.hbm, 224, rfl⟩
abbrev main_while0b_v155 : Ref sig .tc := ⟨.hbm, 225, rfl⟩
abbrev main_while0b_v156 : Ref sig .tc := ⟨.hbm, 226, rfl⟩
abbrev main_while0b_v157 : Ref sig .tc := ⟨.hbm, 227, rfl⟩
abbrev main_while0b_v158 : Ref sig .tc := ⟨.hbm, 228, rfl⟩
abbrev main_while0b_v159 : Ref sig .tc := ⟨.hbm, 229, rfl⟩
abbrev main_while0b_call2_v0 : Ref sig .tc := ⟨.hbm, 230, rfl⟩
abbrev main_while0b_call2_c : Ref sig .tc := ⟨.hbm, 231, rfl⟩
abbrev main_while0b_call2_c_0 : Ref sig .tc := ⟨.hbm, 232, rfl⟩
abbrev main_while0b_call2_c_1 : Ref sig .tc := ⟨.hbm, 233, rfl⟩
abbrev main_while0b_v160 : Ref sig .tc := ⟨.hbm, 234, rfl⟩
abbrev main_while0b_c_42 : Ref sig .tc := ⟨.hbm, 235, rfl⟩
abbrev main_while0b_v161 : Ref sig .tc := ⟨.hbm, 236, rfl⟩
abbrev main_v13 : Ref sig .tc := ⟨.hbm, 237, rfl⟩

abbrev nD : Nat := 1
abbrev τ : Topo := Topo.v7x

variable {F : FTy → Type} [FloatOps F]

abbrev main_while0_count : Scf.Loop 32 := ⟨0#32, 12#32, 1#32⟩
-- ==== Proof.IdealFrame.lean ====
/- The idealized kernel's frame, and what its pipeline leaves in the result, block by block. -/
module

public import proofs.«01_k».proof.Proof.Gen.KernelIdeal.Frame.RunA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The twelve stores of the body cover the result's block. -/
theorem cover0_A_24 (c : Dev nD) (i : grid0.Coords) (arg1 : Memref sig .tc .vmem S1x50x4 .f32) (harg1 : arg1.IsWhole) (arg2 : Memref sig .tc .vmem S1x3x50x50 .f32) (harg2 : arg2.IsWhole) (arg3 : Memref sig .tc .vmem S50x2800 .f32) (harg3 : arg3.IsWhole) (arg4 : Memref sig .tc .vmem S50x2800 .f32) (harg4 : arg4.IsWhole) (arg5 : Memref sig .tc .vmem S3x64x64 .f32) (harg5 : arg5.IsWhole) (arg6 : Memref sig .tc .vmem S3x64x64 .f32) (harg6 : arg6.IsWhole) (arg7 : Memref sig .tc .vmem S3x1x64 .f32) (harg7 : arg7.IsWhole) (arg8 : Memref sig .tc .vmem S3x64x64 .f32) (harg8 : arg8.IsWhole) (arg9 : Memref sig .tc .vmem S3x1x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S4x64 .f32) (harg13 : arg13.IsWhole) (arg14 : Memref sig .tc .vmem S1x64 .f32) (harg14 : arg14.IsWhole) (arg15 : Memref sig .tc .vmem S4x64 .f32) (harg15 : arg15.IsWhole) (arg16 : Memref sig .tc .vmem S1x64 .f32) (harg16 : arg16.IsWhole) (arg17 : Memref sig .tc .vmem S4x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x4 .f32) (harg23 : arg23.IsWhole) (arg24 : Memref sig .tc .vmem S1x4 .f32) (harg24 : arg24.IsWhole) (arg25 : Memref sig .tc .vmem S1x12x50x4 .f32) (harg25 : arg25.IsWhole) (arg26 : Memref sig .tc .vmem S8x128 .f32) (harg26 : arg26.IsWhole)
    (x0 : Vec F S1x50x4 .f32) (x1 : Vec F S1x3x50x50 .f32) (x2 : Vec F S50x2800 .f32) (x3 : Vec F S50x2800 .f32) (x4 : Vec F S3x64x64 .f32) (x5 : Vec F S3x64x64 .f32) (x6 : Vec F S3x1x64 .f32) (x7 : Vec F S3x64x64 .f32) (x8 : Vec F S3x1x64 .f32) (x9 : Vec F S64x64 .f32) (x10 : Vec F S64x64 .f32) (x11 : Vec F S64x64 .f32) (x12 : Vec F S4x64 .f32) (x13 : Vec F S1x64 .f32) (x14 : Vec F S4x64 .f32) (x15 : Vec F S1x64 .f32) (x16 : Vec F S4x64 .f32) (x17 : Vec F S1x64 .f32) (x18 : Vec F S64x64 .f32) (x19 : Vec F S1x64 .f32) (x20 : Vec F S64x64 .f32) (x21 : Vec F S1x64 .f32) (x22 : Vec F S64x4 .f32) (x23 : Vec F S1x4 .f32) (y : S1x12x50x4.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1 S1x1x50x4.size (by sl_kernel_rfl) y

/-- What the body leaves in the result's block: its stores, read back. -/
def out0_A_24 (c : Dev nD) (i : grid0.Coords) (arg1 : Memref sig .tc .vmem S1x50x4 .f32) (harg1 : arg1.IsWhole) (arg2 : Memref sig .tc .vmem S1x3x50x50 .f32) (harg2 : arg2.IsWhole) (arg3 : Memref sig .tc .vmem S50x2800 .f32) (harg3 : arg3.IsWhole) (arg4 : Memref sig .tc .vmem S50x2800 .f32) (harg4 : arg4.IsWhole) (arg5 : Memref sig .tc .vmem S3x64x64 .f32) (harg5 : arg5.IsWhole) (arg6 : Memref sig .tc .vmem S3x64x64 .f32) (harg6 : arg6.IsWhole) (arg7 : Memref sig .tc .vmem S3x1x64 .f32) (harg7 : arg7.IsWhole) (arg8 : Memref sig .tc .vmem S3x64x64 .f32) (harg8 : arg8.IsWhole) (arg9 : Memref sig .tc .vmem S3x1x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S4x64 .f32) (harg13 : arg13.IsWhole) (arg14 : Memref sig .tc .vmem S1x64 .f32) (harg14 : arg14.IsWhole) (arg15 : Memref sig .tc .vmem S4x64 .f32) (harg15 : arg15.IsWhole) (arg16 : Memref sig .tc .vmem S1x64 .f32) (harg16 : arg16.IsWhole) (arg17 : Memref sig .tc .vmem S4x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x4 .f32) (harg23 : arg23.IsWhole) (arg24 : Memref sig .tc .vmem S1x4 .f32) (harg24 : arg24.IsWhole) (arg25 : Memref sig .tc .vmem S1x12x50x4 .f32) (harg25 : arg25.IsWhole) (arg26 : Memref sig .tc .vmem S8x128 .f32) (harg26 : arg26.IsWhole)
    (x0 : Vec F S1x50x4 .f32) (x1 : Vec F S1x3x50x50 .f32) (x2 : Vec F S50x2800 .f32) (x3 : Vec F S50x2800 .f32) (x4 : Vec F S3x64x64 .f32) (x5 : Vec F S3x64x64 .f32) (x6 : Vec F S3x1x64 .f32) (x7 : Vec F S3x64x64 .f32) (x8 : Vec F S3x1x64 .f32) (x9 : Vec F S64x64 .f32) (x10 : Vec F S64x64 .f32) (x11 : Vec F S64x64 .f32) (x12 : Vec F S4x64 .f32) (x13 : Vec F S1x64 .f32) (x14 : Vec F S4x64 .f32) (x15 : Vec F S1x64 .f32) (x16 : Vec F S4x64 .f32) (x17 : Vec F S1x64 .f32) (x18 : Vec F S64x64 .f32) (x19 : Vec F S1x64 .f32) (x20 : Vec F S64x64 .f32) (x21 : Vec F S1x64 .f32) (x22 : Vec F S64x4 .f32) (x23 : Vec F S1x4 .f32) : Vec F S1x12x50x4 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1)

/-! ## What the outputs hold after each point -/

/-- What the result's block holds after the body at point `t`. -/
def outsAt0 (c : Dev nD) (t : Fin cfg0.N) : Vec F S1x12x50x4 .f32 :=
  out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)

/-! ## The pipeline's proof data -/

/-- The data of the launch on core `c`: the arrays as the launch finds them; after the body at point `t` each input's
    block is as it was and the result's is `outsAt0`; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t)
    | ⟨_ + 25, h⟩ => absurd h (Nat.not_lt.2 (Nat.le_add_left _ _))
  Φ _ := Pipeline.ΦA spec0 c
  q _ := fullShare
  owed _ := 0

/-- The arrays of the data are those the launch finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t) := by dsimp only [dats]

/-- Before the body each input's buffer holds its block of the point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body, at any point -/

/-- What holds before the body at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What holds after the body at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 2400000 in
/-- The body at any point takes what holds before it to what holds after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.castSucc = Pipeline.ΦA spec0 c from rfl, PhiA0_eq]
  unfold outsAt0
  unfold out0_A_24
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [HS0]; · iexact HS0
  iintro ⟨H0, H1, H2, H3, H4, H5, H6, H7, H8, H9, H10, H11, H12, H13, H14, H15, H16, H17, H18, H19, H20, H21, H22, H23, ⟨%e24, H24⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body called at point `t` is `bodyAt0 t`. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's triple as the pipeline asks for it, at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with the arrays at what the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arrays at what the data say. -/
theorem run_main : θ_run defs (onTc (τ := τ) (main (F := F))) (s₀ m ρ) (Pipeline.FramePost cfgs (dats m) 0 (V m)) :=
  (θ_run defs _ _).mono (fun _ h => h.1) (run_main_quiescent m ρ)

/-- Every run leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- Every run ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.KernelIdeal.Gen

end
-- ==== Proof.IdealValue.lean ====
/- The idealized kernel's result after a run: each block of it as the grid point left it. -/
module

public import proofs.«01_k».proof.Proof.IdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- What point `t` writes back: its block of the result as the body leaves it. -/
theorem flushed24 (c : Dev nD) (t : Fin cfg0.N) :
    (dats m 0 c).flushed 24 t = (cfg0.win 24).cut (grid0.coords t) (outsAt0 m c t) := by
  show (cfg0.win 24).cut (grid0.coords t) ((dats m 0 c).after 24 t) = _
  rw [after0_24]

/-- Distinct points have distinct blocks of the result. -/
theorem idx_inj24 : ∀ t t' : Fin cfg0.N, win0_24.index t = win0_24.index t' → t = t' :=
  (by decide +kernel : ∀ t t' : Fin grid0.N, win0_24.index t = win0_24.index t' → t = t')

/-- So two points' blocks share no index. -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- Block `t` of the final array is what point `t` wrote back. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- The result array after the run. -/
theorem post24 (r : PUnit × MemSt nD τ sig (Elt F)) (h : Pipeline.FramePost cfgs (dats m) 0 (V m) r) (c : Dev nD) :
    r.2.mem ((c : Thread nD τ).loc main_v45) = (dats m 0 c).arrAt 24 cfg0.N :=
  (h c).1 24

/-- Argument `main_arg0` is unchanged after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument `main_arg1` is unchanged after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument `main_arg2` is unchanged after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument `main_arg3` is unchanged after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument `main_arg4` is unchanged after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument `main_arg5` is unchanged after the run. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument `main_arg6` is unchanged after the run. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 9).trans (((dats m 0 c).arrAt_in 9 rfl _).trans ((A_eq m c 9).trans (V_main_arg6 m c)))

/-- Argument `main_arg7` is unchanged after the run. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 10).trans (((dats m 0 c).arrAt_in 10 rfl _).trans ((A_eq m c 10).trans (V_main_arg7 m c)))

/-- Argument `main_arg8` is unchanged after the run. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 11).trans (((dats m 0 c).arrAt_in 11 rfl _).trans ((A_eq m c 11).trans (V_main_arg8 m c)))

/-- Argument `main_arg9` is unchanged after the run. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 12).trans (((dats m 0 c).arrAt_in 12 rfl _).trans ((A_eq m c 12).trans (V_main_arg9 m c)))

/-- Argument `main_arg10` is unchanged after the run. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- Argument `main_arg11` is unchanged after the run. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 14).trans (((dats m 0 c).arrAt_in 14 rfl _).trans ((A_eq m c 14).trans (V_main_arg11 m c)))

/-- Argument `main_arg12` is unchanged after the run. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- Argument `main_arg13` is unchanged after the run. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 16).trans (((dats m 0 c).arrAt_in 16 rfl _).trans ((A_eq m c 16).trans (V_main_arg13 m c)))

/-- Argument `main_arg14` is unchanged after the run. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- Argument `main_arg15` is unchanged after the run. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 18).trans (((dats m 0 c).arrAt_in 18 rfl _).trans ((A_eq m c 18).trans (V_main_arg15 m c)))

/-- Argument `main_arg16` is unchanged after the run. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- Argument `main_arg17` is unchanged after the run. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 20).trans (((dats m 0 c).arrAt_in 20 rfl _).trans ((A_eq m c 20).trans (V_main_arg17 m c)))

/-- Argument `main_arg18` is unchanged after the run. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- Argument `main_arg19` is unchanged after the run. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 22).trans (((dats m 0 c).arrAt_in 22 rfl _).trans ((A_eq m c 22).trans (V_main_arg19 m c)))

/-- Argument `main_arg20` is unchanged after the run. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- Every run ends with the result array at what the data say and the arguments unchanged. -/
theorem run_blocks : θ_run defs (onTc (τ := τ) (main (F := F))) ⟨m, fun _ => 0, ρ⟩ fun r => ∀ c : Dev nD,
      r.2.mem ((c : Thread nD τ).loc main_v45) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

end Cert.KernelIdeal.Value

end
-- ==== Proof.RefRun.lean ====
/- The reference's run in terms of one trip of its loop: the results are fields of that step, iterated. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_23 : V0 (Proc.devRef .tc main_v12_23) = s.main_v12_23
  f_24 : V0 (Proc.devRef .tc main_v12_24) = s.main_v12_24
  f_25 : V0 (Proc.devRef .tc main_v12_25) = s.main_v12_25
  f_2 : V0 (Proc.devRef .tc main_v12_2) = s.main_v12_2
  f_3 : V0 (Proc.devRef .tc main_v12_3) = s.main_v12_3
  f_4 : V0 (Proc.devRef .tc main_v12_4) = s.main_v12_4
  f_5 : V0 (Proc.devRef .tc main_v12_5) = s.main_v12_5
  f_6 : V0 (Proc.devRef .tc main_v12_6) = s.main_v12_6
  f_7 : V0 (Proc.devRef .tc main_v12_7) = s.main_v12_7
  f_8 : V0 (Proc.devRef .tc main_v12_8) = s.main_v12_8
  f_9 : V0 (Proc.devRef .tc main_v12_9) = s.main_v12_9
  f_10 : V0 (Proc.devRef .tc main_v12_10) = s.main_v12_10
  f_11 : V0 (Proc.devRef .tc main_v12_11) = s.main_v12_11
  f_12 : V0 (Proc.devRef .tc main_v12_12) = s.main_v12_12
  f_13 : V0 (Proc.devRef .tc main_v12_13) = s.main_v12_13
  f_14 : V0 (Proc.devRef .tc main_v12_14) = s.main_v12_14
  f_15 : V0 (Proc.devRef .tc main_v12_15) = s.main_v12_15
  f_16 : V0 (Proc.devRef .tc main_v12_16) = s.main_v12_16
  f_17 : V0 (Proc.devRef .tc main_v12_17) = s.main_v12_17
  f_18 : V0 (Proc.devRef .tc main_v12_18) = s.main_v12_18
  f_19 : V0 (Proc.devRef .tc main_v12_19) = s.main_v12_19
  f_20 : V0 (Proc.devRef .tc main_v12_20) = s.main_v12_20
  f_21 : V0 (Proc.devRef .tc main_v12_21) = s.main_v12_21
  n_22 : V0 (Proc.devRef .tc main_v12_22) = constantI S_ 32 (BitVec.ofNat 32 j)
  k_0 : V0 (Proc.devRef .tc main_v12_0) = Cert.ReferenceIdeal.Step.K_main_v7 (F := F)
  k_1 : V0 (Proc.devRef .tc main_v12_1) = Cert.ReferenceIdeal.Step.K_main_v2 (F := F)

variable {V0 s j}

set_option maxRecDepth 8192 in
theorem al_0 (h : Holds V0 s j) : (constantI S_ 32 0#32 : (Proc.devRef .tc main_while0b_c_27 : DevRef τ sig).ty.Contents (Elt F)) = Cert.ReferenceIdeal.Step.b0 j s := by
  unfold Cert.ReferenceIdeal.Step.b0
  rfl
set_option maxRecDepth 8192 in
theorem al_1 (h : Holds V0 s j) : (broadcastInDim S2450 ![] bcast_S_S2450 (constantI S_ 32 0#32) : (Proc.devRef .tc main_while0b_v14 : DevRef τ sig).ty.Contents (Elt F)) = Cert.ReferenceIdeal.Step.b1 j s := by
  unfold Cert.ReferenceIdeal.Step.b1
  rw [← al_0 h]
  try rfl
set_option maxRecDepth 8192 in
theorem al_2 (h : Holds V0 s j) : (cmpi .slt (V0 (Proc.devRef .tc main_v12_0)) (broadcastInDim S2450 ![] bcast_S_S2450 (constantI S_ 32 0#32)) : (Proc.devRef .tc main_while0b_v15 : DevRef τ sig).ty.Contents (Elt F)) = Cert.ReferenceIdeal.Step.b2 j s := by
  unfold Cert.ReferenceIdeal.Step.b2
  rw [← al_1 h, h.k_0]
  try rfl
set_option maxRecDepth 8192 in
theorem al_3 (h : Holds V0 s j) : (constantI S_ 32 50#32 : (Proc.devRef .tc main_while0b_c_28 : DevRef τ sig).ty.Contents (Elt F)) = Cert.ReferenceIdeal.Step.b3 j s := by
  unfold Cert.ReferenceIdeal.Step.b3
  rfl
set_option maxRecDepth 8192 in
theorem al_4 (h : Holds V0 s j) : (broadcastInDim S2450 ![] bcast_S_S2450 (constantI S_ 32 50#32) : (Proc.devRef .tc main_while0b_v16 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (addi (V0 (Proc.devRef .tc main_v12_0)) (broadcastInDim S2450 ![] bcast_S_S2450 (constantI S_ 32 50#32)) : (Proc.devRef .tc main_while0b_v17 : DevRef τ sig).ty.Contents (Elt F)) = Cert.ReferenceIdeal.Step.b5 j s := by
  unfold Cert.ReferenceIdeal.Step.b5
  rw [← al_4 h, h.k_0]
  try rfl
set_option maxRecDepth 8192 in
theorem al_6 (h : Holds V0 s j) : (select (cmpi .slt (V0 (Proc.devRef .tc main_v12_0)) (broadcastInDim S2450 ![] bcast_S_S2450 (constantI S_ 32 0#32))) (addi (V0 (Proc.devRef .tc main_v12_0)) (broadcastInDim S2450 ![] bcast_S_S2450 (constantI S_ 32 50#32))) (V0 (Proc.devRef .tc main_v12_0)) : (Proc.devRef .tc main_while0b_v18 : DevRef τ sig).ty.Contents (Elt F)) = Cert.ReferenceIdeal.Step.b6 j s := by
  unfold Cert.ReferenceIdeal.Step.b6
  rw [← al_2 h, ← al_5 h, h.k_0]
  try rfl
set_option maxRecDepth 8192 in
theorem al_7 (h : Holds V0 s j) : (broadcastInDim S2450x1 ![0] bcast_S2450_S2450x1_0 (select (cmpi .slt (V0 (Proc.devRef .tc main_v12_0)) (broadcastInDim S2450 ![] bcast_S_S2450 (constantI S_ 32 0#32))) (addi (V0 (Proc.devRef .tc main_v12_0)) (broadcastInDim S2450 ![] bcast_S_S2450 (constantI S_ 32 50#32))) (V0 (Proc.devRef .tc main_v12_0))) : (Proc.devRef .tc main_while0b_v19 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (Host.gather gather_S16x50x64_S2450x1_S16x2450x64_02_1_n_n_1_1_16164 (V0 (Proc.devRef .tc main_v12_23)) (broadcastInDim S2450x1 ![0] bcast_S2450_S2450x1_0 (select (cmpi .slt (V0 (Proc.devRef .tc main_v12_0)) (broadcastInDim S2450 ![] bcast_S_S2450 (constantI S_ 32 0#32))) (addi (V0 (Proc.devRef .tc main_v12_0)) (broadcastInDim S2450 ![] bcast_S_S2450 (constantI S_ 32 50#32))) (V0 (Proc.devRef .tc main_v12_0)))) : (Proc.devRef .tc main_while0b_v20 : DevRef τ sig).ty.Contents (Elt F)) = Cert.ReferenceIdeal.Step.b8 j s := by
  unfold Cert.ReferenceIdeal.Step.b8
  rw [← al_7 h, h.f_23]
  try rfl
set_option maxRecDepth 8192 in
theorem al_9 (h : Holds V0 s j) : (constantI S_ 32 0#32 : (Proc.devRef .tc main_while0b_c_29 : DevRef τ sig).ty.Contents (Elt F)) = Cert.ReferenceIdeal.Step.b9 j s := by
  unfold Cert.ReferenceIdeal.Step.b9
  rfl
set_option maxRecDepth 8192 in
theorem al_10 (h : Holds V0 s j) : (broadcastInDim S2450 ![] bcast_S_S2450 (constantI S_ 32 0#32) : (Proc.devRef .tc main_while0b_v21 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (cmpi .slt (V0 (Proc.devRef .tc main_v12_1)) (broadcastInDim S2450 ![] bcast_S_S2450 (constantI S_ 32 0#32)) : (Proc.devRef .tc main_while0b_v22 : DevRef τ sig).ty.Contents (Elt F)) = Cert.ReferenceIdeal.Step.b11 j s := by
  unfold Cert.ReferenceIdeal.Step.b11
  rw [← al_10 h, h.k_1]
  try rfl
set_option maxRecDepth 8192 in
theorem al_12 (h : Holds V0 s j) : (constantI S_ 32 50#32 : (Proc.devRef .tc main_while0b_c_30 : DevRef τ sig).ty.Contents (Elt F)) = Cert.ReferenceIdeal.Step.b12 j s := by
  unfold Cert.ReferenceIdeal.Step.b12
  rfl
set_option maxRecDepth 8192 in
theorem al_13 (h : Holds V0 s j) : (broadcastInDim S2450 ![] bcast_S_S2450 (constantI S_ 32 50#32) : (Proc.devRef .tc main_while0b_v23 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (addi (V0 (Proc.devRef .tc main_v12_1)) (broadcastInDim S2450 ![] bcast_S_S2450 (constantI S_ 32 50#32)) : (Proc.devRef .tc main_while0b_v24 : DevRef τ sig).ty.Contents (Elt F)) = Cert.ReferenceIdeal.Step.b14 j s := by
  unfold Cert.ReferenceIdeal.Step.b14
  rw [← al_13 h, h.k_1]
  try rfl
set_option maxRecDepth 8192 in
theorem al_15 (h : Holds V0 s j) : (select (cmpi .slt (V0 (Proc.devRef .tc main_v12_1)) (broadcastInDim S2450 ![] bcast_S_S2450 (constantI S_ 32 0#32))) (addi (V0 (Proc.devRef .tc main_v12_1)) (broadcastInDim S2450 ![] bcast_S_S2450 (constantI S_ 32 50#32))) (V0 (Proc.devRef .tc main_v12_1)) : (Proc.devRef .tc main_while0b_v25 : DevRef τ sig).ty.Contents (Elt F)) = Cert.ReferenceIdeal.Step.b15 j s := by
  unfold Cert.ReferenceIdeal.Step.b15
  rw [← al_11 h, ← al_14 h, h.k_1]
  try rfl
set_option maxRecDepth 8192 in
theorem al_16 (h : Holds V0 s j) : (broadcastInDim S2450x1 ![0] bcast_S2450_S2450x1_0 (select (cmpi .slt (V0 (Proc.devRef .tc main_v12_1)) (broadcastInDim S2450 ![] bcast_S_S2450 (constantI S_ 32 0#32))) (addi (V0 (Proc.devRef .tc main_v12_1)) (broadcastInDim S2450 ![] bcast_S_S2450 (constantI S_ 32 50#32))) (V0 (Proc.devRef .tc main_v12_1))) : (Proc.devRef .tc main_while0b_v26 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (Host.gather gather_S16x50x64_S2450x1_S16x2450x64_02_1_n_n_1_1_16164 (V0 (Proc.devRef .tc main_v12_23)) (broadcastInDim S2450x1 ![0] bcast_S2450_S2450x1_0 (select (cmpi .slt (V0 (Proc.devRef .tc main_v12_1)) (broadcastInDim S2450 ![] bcast_S_S2450 (constantI S_ 32 0#32))) (addi (V0 (Proc.devRef .tc main_v12_1)) (broadcastInDim S2450 ![] bcast_S_S2450 (constantI S_ 32 50#32))) (V0 (Proc.devRef .tc main_v12_1)))) : (Proc.devRef .tc main_while0b_v27 : DevRef τ sig).ty.Contents (Elt F)) = Cert.ReferenceIdeal.Step.b17 j s := by
  unfold Cert.ReferenceIdeal.Step.b17
  rw [← al_16 h, h.f_23]
  try rfl
set_option maxRecDepth 8192 in
theorem al_18 (h : Holds V0 s j) : (res_main_while0b_v28 V0 : (Proc.devRef .tc main_while0b_v28 : DevRef τ sig).ty.Contents (Elt F)) = Cert.ReferenceIdeal.Step.b18 j s := by
  unfold res_main_while0b_v28 Cert.ReferenceIdeal.Step.b18
  rw [← al_8 h, ← al_17 h]
  try rfl
set_option maxRecDepth 8192 in
theorem al_19 (h : Holds V0 s j) : (constant S_ .f32 0x00000000#32 : (Proc.devRef .tc main_while0b_cst_31 : DevRef τ sig).ty.Contents (Elt F)) = Cert.ReferenceIdeal.Step.b19 j s := by
  unfold Cert.ReferenceIdeal.Step.b19
  rfl
set_option maxRecDepth 8192 in
theorem al_20 (h : Holds V0 s j) : (broadcastInDim S16x2450x64 ![] bcast_S_S16x2450x64 (constant S_ .f32 0x00000000#32) : (Proc.devRef .tc main_while0b_v29 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (extractStridedSlice S1x128x64 ![1, 0, 0] (V0 (Proc.devRef .tc main_v12_2)) slices_S4x128x64_S1x128x64_1_0_0 : (Proc.devRef .tc main_while0b_v30 : DevRef τ sig).ty.Contents (Elt F)) = Cert.ReferenceIdeal.Step.b21 j s := by
  unfold Cert.ReferenceIdeal.Step.b21
  rw [h.f_2]
  try rfl
set_option maxRecDepth 8192 in
theorem al_22 (h : Holds V0 s j) : (shapeCast S128x64 (extractStridedSlice S1x128x64 ![1, 0, 0] (V0 (Proc.devRef .tc main_v12_2)) slices_S4x128x64_S1x128x64_1_0_0) shapeCasts_S1x128x64_S128x64 : (Proc.devRef .tc main_while0b_v31 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64) : (Proc.devRef .tc main_while0b_v32 : DevRef τ sig).ty.Contents (Elt F)) = Cert.ReferenceIdeal.Step.b23 j s := by
  unfold Cert.ReferenceIdeal.Step.b23
  rw [← al_18 h, ← al_22 h]
  try rfl
set_option maxRecDepth 8192 in
theorem al_24 (h : Holds V0 s j) : (extractStridedSlice S1x64 ![1, 0] (V0 (Proc.devRef .tc main_v12_3)) slices_S4x64_S1x64_1_0 : (Proc.devRef .tc main_while0b_v33 : DevRef τ sig).ty.Contents (Elt F)) = Cert.ReferenceIdeal.Step.b24 j s := by
  unfold Cert.ReferenceIdeal.Step.b24
  rw [h.f_3]
  try rfl
set_option maxRecDepth 8192 in
theorem al_25 (h : Holds V0 s j) : (shapeCast S64 (extractStridedSlice S1x64 ![1, 0] (V0 (Proc.devRef .tc main_v12_3)) slices_S4x64_S1x64_1_0) shapeCasts_S1x64_S64 : (Proc.devRef .tc main_while0b_v34 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (broadcastInDim S1x1x64 ![2] bcast_S64_S1x1x64_2 (shapeCast S64 (extractStridedSlice S1x64 ![1, 0] (V0 (Proc.devRef .tc main_v12_3)) slices_S4x64_S1x64_1_0) shapeCasts_S1x64_S64) : (Proc.devRef .tc main_while0b_v35 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64)) : (Proc.devRef .tc main_while0b_v36 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (addf (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64))) : (Proc.devRef .tc main_while0b_v37 : DevRef τ sig).ty.Contents (Elt F)) = Cert.ReferenceIdeal.Step.b28 j s := by
  unfold Cert.ReferenceIdeal.Step.b28
  rw [← al_23 h, ← al_27 h]
  try rfl
set_option maxRecDepth 8192 in
theorem al_29 (h : Holds V0 s j) : (Host.tanh (addf (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64)))) : (Proc.devRef .tc main_while0b_v38 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (extractStridedSlice S1x64x64 ![1, 0, 0] (V0 (Proc.devRef .tc main_v12_4)) slices_S4x64x64_S1x64x64_1_0_0 : (Proc.devRef .tc main_while0b_v39 : DevRef τ sig).ty.Contents (Elt F)) = Cert.ReferenceIdeal.Step.b30 j s := by
  unfold Cert.ReferenceIdeal.Step.b30
  rw [h.f_4]
  try rfl
set_option maxRecDepth 8192 in
theorem al_31 (h : Holds V0 s j) : (shapeCast S64x64 (extractStridedSlice S1x64x64 ![1, 0, 0] (V0 (Proc.devRef .tc main_v12_4)) slices_S4x64x64_S1x64x64_1_0_0) shapeCasts_S1x64x64_S64x64 : (Proc.devRef .tc main_while0b_v40 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64))))) (shapeCast S64x64 (extractStridedSlice S1x64x64 ![1, 0, 0] (V0 (Proc.devRef .tc main_v12_4)) slices_S4x64x64_S1x64x64_1_0_0) shapeCasts_S1x64x64_S64x64) : (Proc.devRef .tc main_while0b_v41 : DevRef τ sig).ty.Contents (Elt F)) = Cert.ReferenceIdeal.Step.b32 j s := by
  unfold Cert.ReferenceIdeal.Step.b32
  rw [← al_29 h, ← al_31 h]
  try rfl
set_option maxRecDepth 8192 in
theorem al_33 (h : Holds V0 s j) : (extractStridedSlice S1x64 ![1, 0] (V0 (Proc.devRef .tc main_v12_5)) slices_S4x64_S1x64_1_0 : (Proc.devRef .tc main_while0b_v42 : DevRef τ sig).ty.Contents (Elt F)) = Cert.ReferenceIdeal.Step.b33 j s := by
  unfold Cert.ReferenceIdeal.Step.b33
  rw [h.f_5]
  try rfl
set_option maxRecDepth 8192 in
theorem al_34 (h : Holds V0 s j) : (shapeCast S64 (extractStridedSlice S1x64 ![1, 0] (V0 (Proc.devRef .tc main_v12_5)) slices_S4x64_S1x64_1_0) shapeCasts_S1x64_S64 : (Proc.devRef .tc main_while0b_v43 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (broadcastInDim S1x1x64 ![2] bcast_S64_S1x1x64_2 (shapeCast S64 (extractStridedSlice S1x64 ![1, 0] (V0 (Proc.devRef .tc main_v12_5)) slices_S4x64_S1x64_1_0) shapeCasts_S1x64_S64) : (Proc.devRef .tc main_while0b_v44 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_5)) slices_S4x64_S1x64_1_0) shapeCasts_S1x64_S64)) : (Proc.devRef .tc main_while0b_v45 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64))))) (shapeCast S64x64 (extractStridedSlice S1x64x64 ![1, 0, 0] (V0 (Proc.devRef .tc main_v12_4)) slices_S4x64x64_S1x64x64_1_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_5)) slices_S4x64_S1x64_1_0) shapeCasts_S1x64_S64))) : (Proc.devRef .tc main_while0b_v46 : DevRef τ sig).ty.Contents (Elt F)) = Cert.ReferenceIdeal.Step.b37 j s := by
  unfold Cert.ReferenceIdeal.Step.b37
  rw [← al_32 h, ← al_36 h]
  try rfl
set_option maxRecDepth 8192 in
theorem al_38 (h : Holds V0 s j) : (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64))))) (shapeCast S64x64 (extractStridedSlice S1x64x64 ![1, 0, 0] (V0 (Proc.devRef .tc main_v12_4)) slices_S4x64x64_S1x64x64_1_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_5)) slices_S4x64_S1x64_1_0) shapeCasts_S1x64_S64)))) : (Proc.devRef .tc main_while0b_v47 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (extractStridedSlice S16x2450x1 ![0, 0, 1] (V0 (Proc.devRef .tc main_v12_6)) slices_S16x2450x4_S16x2450x1_0_0_1 : (Proc.devRef .tc main_while0b_v48 : DevRef τ sig).ty.Contents (Elt F)) = Cert.ReferenceIdeal.Step.b39 j s := by
  unfold Cert.ReferenceIdeal.Step.b39
  rw [h.f_6]
  try rfl
set_option maxRecDepth 8192 in
theorem al_40 (h : Holds V0 s j) : (broadcastInDim S16x2450x64 ![0, 1, 2] bcast_S16x2450x1_S16x2450x64_0_1_2 (extractStridedSlice S16x2450x1 ![0, 0, 1] (V0 (Proc.devRef .tc main_v12_6)) slices_S16x2450x4_S16x2450x1_0_0_1) : (Proc.devRef .tc main_while0b_v49 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (mulf (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64))))) (shapeCast S64x64 (extractStridedSlice S1x64x64 ![1, 0, 0] (V0 (Proc.devRef .tc main_v12_4)) slices_S4x64x64_S1x64x64_1_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_5)) slices_S4x64_S1x64_1_0) shapeCasts_S1x64_S64))))) (broadcastInDim S16x2450x64 ![0, 1, 2] bcast_S16x2450x1_S16x2450x64_0_1_2 (extractStridedSlice S16x2450x1 ![0, 0, 1] (V0 (Proc.devRef .tc main_v12_6)) slices_S16x2450x4_S16x2450x1_0_0_1)) : (Proc.devRef .tc main_while0b_v50 : DevRef τ sig).ty.Contents (Elt F)) = Cert.ReferenceIdeal.Step.b41 j s := by
  unfold Cert.ReferenceIdeal.Step.b41
  rw [← al_38 h, ← al_40 h]
  try rfl
set_option maxRecDepth 8192 in
theorem al_42 (h : Holds V0 s j) : (constant S_ .f32 0x40400000#32 : (Proc.devRef .tc main_while0b_cst_32 : DevRef τ sig).ty.Contents (Elt F)) = Cert.ReferenceIdeal.Step.b42 j s := by
  unfold Cert.ReferenceIdeal.Step.b42
  rfl
set_option maxRecDepth 8192 in
theorem al_43 (h : Holds V0 s j) : (broadcastInDim S16x2450x64 ![] bcast_S_S16x2450x64 (constant S_ .f32 0x40400000#32) : (Proc.devRef .tc main_while0b_v51 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (Host.divf (mulf (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64))))) (shapeCast S64x64 (extractStridedSlice S1x64x64 ![1, 0, 0] (V0 (Proc.devRef .tc main_v12_4)) slices_S4x64x64_S1x64x64_1_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_5)) slices_S4x64_S1x64_1_0) shapeCasts_S1x64_S64))))) (broadcastInDim S16x2450x64 ![0, 1, 2] bcast_S16x2450x1_S16x2450x64_0_1_2 (extractStridedSlice S16x2450x1 ![0, 0, 1] (V0 (Proc.devRef .tc main_v12_6)) slices_S16x2450x4_S16x2450x1_0_0_1))) (broadcastInDim S16x2450x64 ![] bcast_S_S16x2450x64 (constant S_ .f32 0x40400000#32)) : (Proc.devRef .tc main_while0b_v52 : DevRef τ sig).ty.Contents (Elt F)) = Cert.ReferenceIdeal.Step.b44 j s := by
  unfold Cert.ReferenceIdeal.Step.b44
  rw [← al_41 h, ← al_43 h]
  try rfl
set_option maxRecDepth 8192 in
theorem al_45 (h : Holds V0 s j) : (addf (broadcastInDim S16x2450x64 ![] bcast_S_S16x2450x64 (constant S_ .f32 0x00000000#32)) (Host.divf (mulf (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64))))) (shapeCast S64x64 (extractStridedSlice S1x64x64 ![1, 0, 0] (V0 (Proc.devRef .tc main_v12_4)) slices_S4x64x64_S1x64x64_1_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_5)) slices_S4x64_S1x64_1_0) shapeCasts_S1x64_S64))))) (broadcastInDim S16x2450x64 ![0, 1, 2] bcast_S16x2450x1_S16x2450x64_0_1_2 (extractStridedSlice S16x2450x1 ![0, 0, 1] (V0 (Proc.devRef .tc main_v12_6)) slices_S16x2450x4_S16x2450x1_0_0_1))) (broadcastInDim S16x2450x64 ![] bcast_S_S16x2450x64 (constant S_ .f32 0x40400000#32))) : (Proc.devRef .tc main_while0b_v53 : DevRef τ sig).ty.Contents (Elt F)) = Cert.ReferenceIdeal.Step.b45 j s := by
  unfold Cert.ReferenceIdeal.Step.b45
  rw [← al_20 h, ← al_44 h]
  try rfl
set_option maxRecDepth 8192 in
theorem al_46 (h : Holds V0 s j) : (extractStridedSlice S1x128x64 ![2, 0, 0] (V0 (Proc.devRef .tc main_v12_2)) slices_S4x128x64_S1x128x64_2_0_0 : (Proc.devRef .tc main_while0b_v54 : DevRef τ sig).ty.Contents (Elt F)) = Cert.ReferenceIdeal.Step.b46 j s := by
  unfold Cert.ReferenceIdeal.Step.b46
  rw [h.f_2]
  try rfl
set_option maxRecDepth 8192 in
theorem al_47 (h : Holds V0 s j) : (shapeCast S128x64 (extractStridedSlice S1x128x64 ![2, 0, 0] (V0 (Proc.devRef .tc main_v12_2)) slices_S4x128x64_S1x128x64_2_0_0) shapeCasts_S1x128x64_S128x64 : (Proc.devRef .tc main_while0b_v55 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (Host.dotGeneral dot_S16x2450x128_S128x64_S16x2450x64_2_0_01_1_n_n none (res_main_while0b_v28 V0) (shapeCast S128x64 (extractStridedSlice S1x128x64 ![2, 0, 0] (V0 (Proc.devRef .tc main_v12_2)) slices_S4x128x64_S1x128x64_2_0_0) shapeCasts_S1x128x64_S128x64) : (Proc.devRef .tc main_while0b_v56 : DevRef τ sig).ty.Contents (Elt F)) = Cert.ReferenceIdeal.Step.b48 j s := by
  unfold Cert.ReferenceIdeal.Step.b48
  rw [← al_18 h, ← al_47 h]
  try rfl
set_option maxRecDepth 8192 in
theorem al_49 (h : Holds V0 s j) : (extractStridedSlice S1x64 ![2, 0] (V0 (Proc.devRef .tc main_v12_3)) slices_S4x64_S1x64_2_0 : (Proc.devRef .tc main_while0b_v57 : DevRef τ sig).ty.Contents (Elt F)) = Cert.ReferenceIdeal.Step.b49 j s := by
  unfold Cert.ReferenceIdeal.Step.b49
  rw [h.f_3]
  try rfl
set_option maxRecDepth 8192 in
theorem al_50 (h : Holds V0 s j) : (shapeCast S64 (extractStridedSlice S1x64 ![2, 0] (V0 (Proc.devRef .tc main_v12_3)) slices_S4x64_S1x64_2_0) shapeCasts_S1x64_S64 : (Proc.devRef .tc main_while0b_v58 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (broadcastInDim S1x1x64 ![2] bcast_S64_S1x1x64_2 (shapeCast S64 (extractStridedSlice S1x64 ![2, 0] (V0 (Proc.devRef .tc main_v12_3)) slices_S4x64_S1x64_2_0) shapeCasts_S1x64_S64) : (Proc.devRef .tc main_while0b_v59 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_3)) slices_S4x64_S1x64_2_0) shapeCasts_S1x64_S64)) : (Proc.devRef .tc main_while0b_v60 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (addf (Host.dotGeneral dot_S16x2450x128_S128x64_S16x2450x64_2_0_01_1_n_n none (res_main_while0b_v28 V0) (shapeCast S128x64 (extractStridedSlice S1x128x64 ![2, 0, 0] (V0 (Proc.devRef .tc main_v12_2)) slices_S4x128x64_S1x128x64_2_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_3)) slices_S4x64_S1x64_2_0) shapeCasts_S1x64_S64))) : (Proc.devRef .tc main_while0b_v61 : DevRef τ sig).ty.Contents (Elt F)) = Cert.ReferenceIdeal.Step.b53 j s := by
  unfold Cert.ReferenceIdeal.Step.b53
  rw [← al_48 h, ← al_52 h]
  try rfl
set_option maxRecDepth 8192 in
theorem al_54 (h : Holds V0 s j) : (Host.tanh (addf (Host.dotGeneral dot_S16x2450x128_S128x64_S16x2450x64_2_0_01_1_n_n none (res_main_while0b_v28 V0) (shapeCast S128x64 (extractStridedSlice S1x128x64 ![2, 0, 0] (V0 (Proc.devRef .tc main_v12_2)) slices_S4x128x64_S1x128x64_2_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_3)) slices_S4x64_S1x64_2_0) shapeCasts_S1x64_S64)))) : (Proc.devRef .tc main_while0b_v62 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (extractStridedSlice S1x64x64 ![2, 0, 0] (V0 (Proc.devRef .tc main_v12_4)) slices_S4x64x64_S1x64x64_2_0_0 : (Proc.devRef .tc main_while0b_v63 : DevRef τ sig).ty.Contents (Elt F)) = Cert.ReferenceIdeal.Step.b55 j s := by
  unfold Cert.ReferenceIdeal.Step.b55
  rw [h.f_4]
  try rfl
set_option maxRecDepth 8192 in
theorem al_56 (h : Holds V0 s j) : (shapeCast S64x64 (extractStridedSlice S1x64x64 ![2, 0, 0] (V0 (Proc.devRef .tc main_v12_4)) slices_S4x64x64_S1x64x64_2_0_0) shapeCasts_S1x64x64_S64x64 : (Proc.devRef .tc main_while0b_v64 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![2, 0, 0] (V0 (Proc.devRef .tc main_v12_2)) slices_S4x128x64_S1x128x64_2_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_3)) slices_S4x64_S1x64_2_0) shapeCasts_S1x64_S64))))) (shapeCast S64x64 (extractStridedSlice S1x64x64 ![2, 0, 0] (V0 (Proc.devRef .tc main_v12_4)) slices_S4x64x64_S1x64x64_2_0_0) shapeCasts_S1x64x64_S64x64) : (Proc.devRef .tc main_while0b_v65 : DevRef τ sig).ty.Contents (Elt F)) = Cert.ReferenceIdeal.Step.b57 j s := by
  unfold Cert.ReferenceIdeal.Step.b57
  rw [← al_54 h, ← al_56 h]
  try rfl
set_option maxRecDepth 8192 in
theorem al_58 (h : Holds V0 s j) : (extractStridedSlice S1x64 ![2, 0] (V0 (Proc.devRef .tc main_v12_5)) slices_S4x64_S1x64_2_0 : (Proc.devRef .tc main_while0b_v66 : DevRef τ sig).ty.Contents (Elt F)) = Cert.ReferenceIdeal.Step.b58 j s := by
  unfold Cert.ReferenceIdeal.Step.b58
  rw [h.f_5]
  try rfl
set_option maxRecDepth 8192 in
theorem al_59 (h : Holds V0 s j) : (shapeCast S64 (extractStridedSlice S1x64 ![2, 0] (V0 (Proc.devRef .tc main_v12_5)) slices_S4x64_S1x64_2_0) shapeCasts_S1x64_S64 : (Proc.devRef .tc main_while0b_v67 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (broadcastInDim S1x1x64 ![2] bcast_S64_S1x1x64_2 (shapeCast S64 (extractStridedSlice S1x64 ![2, 0] (V0 (Proc.devRef .tc main_v12_5)) slices_S4x64_S1x64_2_0) shapeCasts_S1x64_S64) : (Proc.devRef .tc main_while0b_v68 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_5)) slices_S4x64_S1x64_2_0) shapeCasts_S1x64_S64)) : (Proc.devRef .tc main_while0b_v69 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![2, 0, 0] (V0 (Proc.devRef .tc main_v12_2)) slices_S4x128x64_S1x128x64_2_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_3)) slices_S4x64_S1x64_2_0) shapeCasts_S1x64_S64))))) (shapeCast S64x64 (extractStridedSlice S1x64x64 ![2, 0, 0] (V0 (Proc.devRef .tc main_v12_4)) slices_S4x64x64_S1x64x64_2_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_5)) slices_S4x64_S1x64_2_0) shapeCasts_S1x64_S64))) : (Proc.devRef .tc main_while0b_v70 : DevRef τ sig).ty.Contents (Elt F)) = Cert.ReferenceIdeal.Step.b62 j s := by
  unfold Cert.ReferenceIdeal.Step.b62
  rw [← al_57 h, ← al_61 h]
  try rfl
set_option maxRecDepth 8192 in
theorem al_63 (h : Holds V0 s j) : (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![2, 0, 0] (V0 (Proc.devRef .tc main_v12_2)) slices_S4x128x64_S1x128x64_2_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_3)) slices_S4x64_S1x64_2_0) shapeCasts_S1x64_S64))))) (shapeCast S64x64 (extractStridedSlice S1x64x64 ![2, 0, 0] (V0 (Proc.devRef .tc main_v12_4)) slices_S4x64x64_S1x64x64_2_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_5)) slices_S4x64_S1x64_2_0) shapeCasts_S1x64_S64)))) : (Proc.devRef .tc main_while0b_v71 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (extractStridedSlice S16x2450x1 ![0, 0, 2] (V0 (Proc.devRef .tc main_v12_6)) slices_S16x2450x4_S16x2450x1_0_0_2 : (Proc.devRef .tc main_while0b_v72 : DevRef τ sig).ty.Contents (Elt F)) = Cert.ReferenceIdeal.Step.b64 j s := by
  unfold Cert.ReferenceIdeal.Step.b64
  rw [h.f_6]
  try rfl
set_option maxRecDepth 8192 in
theorem al_65 (h : Holds V0 s j) : (broadcastInDim S16x2450x64 ![0, 1, 2] bcast_S16x2450x1_S16x2450x64_0_1_2 (extractStridedSlice S16x2450x1 ![0, 0, 2] (V0 (Proc.devRef .tc main_v12_6)) slices_S16x2450x4_S16x2450x1_0_0_2) : (Proc.devRef .tc main_while0b_v73 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (mulf (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![2, 0, 0] (V0 (Proc.devRef .tc main_v12_2)) slices_S4x128x64_S1x128x64_2_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_3)) slices_S4x64_S1x64_2_0) shapeCasts_S1x64_S64))))) (shapeCast S64x64 (extractStridedSlice S1x64x64 ![2, 0, 0] (V0 (Proc.devRef .tc main_v12_4)) slices_S4x64x64_S1x64x64_2_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_5)) slices_S4x64_S1x64_2_0) shapeCasts_S1x64_S64))))) (broadcastInDim S16x2450x64 ![0, 1, 2] bcast_S16x2450x1_S16x2450x64_0_1_2 (extractStridedSlice S16x2450x1 ![0, 0, 2] (V0 (Proc.devRef .tc main_v12_6)) slices_S16x2450x4_S16x2450x1_0_0_2)) : (Proc.devRef .tc main_while0b_v74 : DevRef τ sig).ty.Contents (Elt F)) = Cert.ReferenceIdeal.Step.b66 j s := by
  unfold Cert.ReferenceIdeal.Step.b66
  rw [← al_63 h, ← al_65 h]
  try rfl
set_option maxRecDepth 8192 in
theorem al_67 (h : Holds V0 s j) : (constant S_ .f32 0x40400000#32 : (Proc.devRef .tc main_while0b_cst_33 : DevRef τ sig).ty.Contents (Elt F)) = Cert.ReferenceIdeal.Step.b67 j s := by
  unfold Cert.ReferenceIdeal.Step.b67
  rfl
set_option maxRecDepth 8192 in
theorem al_68 (h : Holds V0 s j) : (broadcastInDim S16x2450x64 ![] bcast_S_S16x2450x64 (constant S_ .f32 0x40400000#32) : (Proc.devRef .tc main_while0b_v75 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (Host.divf (mulf (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![2, 0, 0] (V0 (Proc.devRef .tc main_v12_2)) slices_S4x128x64_S1x128x64_2_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_3)) slices_S4x64_S1x64_2_0) shapeCasts_S1x64_S64))))) (shapeCast S64x64 (extractStridedSlice S1x64x64 ![2, 0, 0] (V0 (Proc.devRef .tc main_v12_4)) slices_S4x64x64_S1x64x64_2_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_5)) slices_S4x64_S1x64_2_0) shapeCasts_S1x64_S64))))) (broadcastInDim S16x2450x64 ![0, 1, 2] bcast_S16x2450x1_S16x2450x64_0_1_2 (extractStridedSlice S16x2450x1 ![0, 0, 2] (V0 (Proc.devRef .tc main_v12_6)) slices_S16x2450x4_S16x2450x1_0_0_2))) (broadcastInDim S16x2450x64 ![] bcast_S_S16x2450x64 (constant S_ .f32 0x40400000#32)) : (Proc.devRef .tc main_while0b_v76 : DevRef τ sig).ty.Contents (Elt F)) = Cert.ReferenceIdeal.Step.b69 j s := by
  unfold Cert.ReferenceIdeal.Step.b69
  rw [← al_66 h, ← al_68 h]
  try rfl
set_option maxRecDepth 8192 in
theorem al_70 (h : Holds V0 s j) : (addf (addf (broadcastInDim S16x2450x64 ![] bcast_S_S16x2450x64 (constant S_ .f32 0x00000000#32)) (Host.divf (mulf (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![1, 0, 0] (V0 (Proc.devRef .tc main_v12_2)) slices_S4x128x64_S1x128x64_1_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_3)) slices_S4x64_S1x64_1_0) shapeCasts_S1x64_S64))))) (shapeCast S64x64 (extractStridedSlice S1x64x64 ![1, 0, 0] (V0 (Proc.devRef .tc main_v12_4)) slices_S4x64x64_S1x64x64_1_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![1, 0] (V0 (Proc.devRef .tc main_v12_5)) slices_S4x64_S1x64_1_0) shapeCasts_S1x64_S64))))) (broadcastInDim S16x2450x64 ![0, 1, 2] bcast_S16x2450x1_S16x2450x64_0_1_2 (extractStridedSlice S16x2450x1 ![0, 0, 1] (V0 (Proc.devRef .tc main_v12_6)) slices_S16x2450x4_S16x2450x1_0_0_1))) (broadcastInDim S16x2450x64 ![] bcast_S_S16x2450x64 (constant S_ .f32 0x40400000#32)))) (Host.divf (mulf (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![2, 0, 0] (V0 (Proc.devRef .tc main_v12_2)) slices_S4x128x64_S1x128x64_2_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_3)) slices_S4x64_S1x64_2_0) shapeCasts_S1x64_S64))))) (shapeCast S64x64 (extractStridedSlice S1x64x64 ![2, 0, 0] (V0 (Proc.devRef .tc main_v12_4)) slices_S4x64x64_S1x64x64_2_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![2, 0] (V0 (Proc.devRef .tc main_v12_5)) slices_S4x64_S1x64_2_0) shapeCasts_S1x64_S64))))) (broadcastInDim S16x2450x64 ![0, 1, 2] bcast_S16x2450x1_S16x2450x64_0_1_2 (extractStridedSlice S16x2450x1 ![0, 0, 2] (V0 (Proc.devRef .tc main_v12_6)) slices_S16x2450x4_S16x2450x1_0_0_2))) (broadcastInDim S16x2450x64 ![] bcast_S_S16x2450x64 (constant S_ .f32 0x40400000#32))) : (Proc.devRef .tc main_while0b_v77 : DevRef τ sig).ty.Contents (Elt F)) = Cert.ReferenceIdeal.Step.b70 j s := by
  unfold Cert.ReferenceIdeal.Step.b70
  rw [← al_45 h, ← al_69 h]
  try rfl
set_option maxRecDepth 8192 in
theorem al_71 (h : Holds V0 s j) : (extractStridedSlice S1x128x64 ![3, 0, 0] (V0 (Proc.devRef .tc main_v12_2)) slices_S4x128x64_S1x128x64_3_0_0 : (Proc.devRef .tc main_while0b_v78 : DevRef τ sig).ty.Contents (Elt F)) = Cert.ReferenceIdeal.Step.b71 j s := by
  unfold Cert.ReferenceIdeal.Step.b71
  rw [h.f_2]
  try rfl
set_option maxRecDepth 8192 in
theorem al_72 (h : Holds V0 s j) : (shapeCast S128x64 (extractStridedSlice S1x128x64 ![3, 0, 0] (V0 (Proc.devRef .tc main_v12_2)) slices_S4x128x64_S1x128x64_3_0_0) shapeCasts_S1x128x64_S128x64 : (Proc.devRef .tc main_while0b_v79 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (Host.dotGeneral dot_S16x2450x128_S128x64_S16x2450x64_2_0_01_1_n_n none (res_main_while0b_v28 V0) (shapeCast S128x64 (extractStridedSlice S1x128x64 ![3, 0, 0] (V0 (Proc.devRef .tc main_v12_2)) slices_S4x128x64_S1x128x64_3_0_0) shapeCasts_S1x128x64_S128x64) : (Proc.devRef .tc main_while0b_v80 : DevRef τ sig).ty.Contents (Elt F)) = Cert.ReferenceIdeal.Step.b73 j s := by
  unfold Cert.ReferenceIdeal.Step.b73
  rw [← al_18 h, ← al_72 h]
  try rfl
set_option maxRecDepth 8192 in
theorem al_74 (h : Holds V0 s j) : (extractStridedSlice S1x64 ![3, 0] (V0 (Proc.devRef .tc main_v12_3)) slices_S4x64_S1x64_3_0 : (Proc.devRef .tc main_while0b_v81 : DevRef τ sig).ty.Contents (Elt F)) = Cert.ReferenceIdeal.Step.b74 j s := by
  unfold Cert.ReferenceIdeal.Step.b74
  rw [h.f_3]
  try rfl
set_option maxRecDepth 8192 in
theorem al_75 (h : Holds V0 s j) : (shapeCast S64 (extractStridedSlice S1x64 ![3, 0] (V0 (Proc.devRef .tc main_v12_3)) slices_S4x64_S1x64_3_0) shapeCasts_S1x64_S64 : (Proc.devRef .tc main_while0b_v82 : DevRef τ sig).ty.Contents (Elt F)) = Cert.ReferenceIdeal.Step.b75 j s := by
  unfold Cert.ReferenceIdeal.Step.b75
  rw [← al_74 h]
  try rfl
set_option maxRecDepth 8192 in
theorem al_76 (h : Holds V0 s j) : (broadcastInDim S1x1x64 ![2] bcast_S64_S1x1x64_2 (shapeCast S64 (extractStridedSlice S1x64 ![3, 0] (V0 (Proc.devRef .tc main_v12_3)) slices_S4x64_S1x64_3_0) shapeCasts_S1x64_S64) : (Proc.devRef .tc main_while0b_v83 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_3)) slices_S4x64_S1x64_3_0) shapeCasts_S1x64_S64)) : (Proc.devRef .tc main_while0b_v84 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (addf (Host.dotGeneral dot_S16x2450x128_S128x64_S16x2450x64_2_0_01_1_n_n none (res_main_while0b_v28 V0) (shapeCast S128x64 (extractStridedSlice S1x128x64 ![3, 0, 0] (V0 (Proc.devRef .tc main_v12_2)) slices_S4x128x64_S1x128x64_3_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_3)) slices_S4x64_S1x64_3_0) shapeCasts_S1x64_S64))) : (Proc.devRef .tc main_while0b_v85 : DevRef τ sig).ty.Contents (Elt F)) = Cert.ReferenceIdeal.Step.b78 j s := by
  unfold Cert.ReferenceIdeal.Step.b78
  rw [← al_73 h, ← al_77 h]
  try rfl
set_option maxRecDepth 8192 in
theorem al_79 (h : Holds V0 s j) : (Host.tanh (addf (Host.dotGeneral dot_S16x2450x128_S128x64_S16x2450x64_2_0_01_1_n_n none (res_main_while0b_v28 V0) (shapeCast S128x64 (extractStridedSlice S1x128x64 ![3, 0, 0] (V0 (Proc.devRef .tc main_v12_2)) slices_S4x128x64_S1x128x64_3_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_3)) slices_S4x64_S1x64_3_0) shapeCasts_S1x64_S64)))) : (Proc.devRef .tc main_while0b_v86 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (extractStridedSlice S1x64x64 ![3, 0, 0] (V0 (Proc.devRef .tc main_v12_4)) slices_S4x64x64_S1x64x64_3_0_0 : (Proc.devRef .tc main_while0b_v87 : DevRef τ sig).ty.Contents (Elt F)) = Cert.ReferenceIdeal.Step.b80 j s := by
  unfold Cert.ReferenceIdeal.Step.b80
  rw [h.f_4]
  try rfl
set_option maxRecDepth 8192 in
theorem al_81 (h : Holds V0 s j) : (shapeCast S64x64 (extractStridedSlice S1x64x64 ![3, 0, 0] (V0 (Proc.devRef .tc main_v12_4)) slices_S4x64x64_S1x64x64_3_0_0) shapeCasts_S1x64x64_S64x64 : (Proc.devRef .tc main_while0b_v88 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![3, 0, 0] (V0 (Proc.devRef .tc main_v12_2)) slices_S4x128x64_S1x128x64_3_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_3)) slices_S4x64_S1x64_3_0) shapeCasts_S1x64_S64))))) (shapeCast S64x64 (extractStridedSlice S1x64x64 ![3, 0, 0] (V0 (Proc.devRef .tc main_v12_4)) slices_S4x64x64_S1x64x64_3_0_0) shapeCasts_S1x64x64_S64x64) : (Proc.devRef .tc main_while0b_v89 : DevRef τ sig).ty.Contents (Elt F)) = Cert.ReferenceIdeal.Step.b82 j s := by
  unfold Cert.ReferenceIdeal.Step.b82
  rw [← al_79 h, ← al_81 h]
  try rfl
set_option maxRecDepth 8192 in
theorem al_83 (h : Holds V0 s j) : (extractStridedSlice S1x64 ![3, 0] (V0 (Proc.devRef .tc main_v12_5)) slices_S4x64_S1x64_3_0 : (Proc.devRef .tc main_while0b_v90 : DevRef τ sig).ty.Contents (Elt F)) = Cert.ReferenceIdeal.Step.b83 j s := by
  unfold Cert.ReferenceIdeal.Step.b83
  rw [h.f_5]
  try rfl
set_option maxRecDepth 8192 in
theorem al_84 (h : Holds V0 s j) : (shapeCast S64 (extractStridedSlice S1x64 ![3, 0] (V0 (Proc.devRef .tc main_v12_5)) slices_S4x64_S1x64_3_0) shapeCasts_S1x64_S64 : (Proc.devRef .tc main_while0b_v91 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (broadcastInDim S1x1x64 ![2] bcast_S64_S1x1x64_2 (shapeCast S64 (extractStridedSlice S1x64 ![3, 0] (V0 (Proc.devRef .tc main_v12_5)) slices_S4x64_S1x64_3_0) shapeCasts_S1x64_S64) : (Proc.devRef .tc main_while0b_v92 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_5)) slices_S4x64_S1x64_3_0) shapeCasts_S1x64_S64)) : (Proc.devRef .tc main_while0b_v93 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![3, 0, 0] (V0 (Proc.devRef .tc main_v12_2)) slices_S4x128x64_S1x128x64_3_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_3)) slices_S4x64_S1x64_3_0) shapeCasts_S1x64_S64))))) (shapeCast S64x64 (extractStridedSlice S1x64x64 ![3, 0, 0] (V0 (Proc.devRef .tc main_v12_4)) slices_S4x64x64_S1x64x64_3_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_5)) slices_S4x64_S1x64_3_0) shapeCasts_S1x64_S64))) : (Proc.devRef .tc main_while0b_v94 : DevRef τ sig).ty.Contents (Elt F)) = Cert.ReferenceIdeal.Step.b87 j s := by
  unfold Cert.ReferenceIdeal.Step.b87
  rw [← al_82 h, ← al_86 h]
  try rfl
set_option maxRecDepth 8192 in
theorem al_88 (h : Holds V0 s j) : (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![3, 0, 0] (V0 (Proc.devRef .tc main_v12_2)) slices_S4x128x64_S1x128x64_3_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_3)) slices_S4x64_S1x64_3_0) shapeCasts_S1x64_S64))))) (shapeCast S64x64 (extractStridedSlice S1x64x64 ![3, 0, 0] (V0 (Proc.devRef .tc main_v12_4)) slices_S4x64x64_S1x64x64_3_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_5)) slices_S4x64_S1x64_3_0) shapeCasts_S1x64_S64)))) : (Proc.devRef .tc main_while0b_v95 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (extractStridedSlice S16x2450x1 ![0, 0, 3] (V0 (Proc.devRef .tc main_v12_6)) slices_S16x2450x4_S16x2450x1_0_0_3 : (Proc.devRef .tc main_while0b_v96 : DevRef τ sig).ty.Contents (Elt F)) = Cert.ReferenceIdeal.Step.b89 j s := by
  unfold Cert.ReferenceIdeal.Step.b89
  rw [h.f_6]
  try rfl
set_option maxRecDepth 8192 in
theorem al_90 (h : Holds V0 s j) : (broadcastInDim S16x2450x64 ![0, 1, 2] bcast_S16x2450x1_S16x2450x64_0_1_2 (extractStridedSlice S16x2450x1 ![0, 0, 3] (V0 (Proc.devRef .tc main_v12_6)) slices_S16x2450x4_S16x2450x1_0_0_3) : (Proc.devRef .tc main_while0b_v97 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (mulf (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![3, 0, 0] (V0 (Proc.devRef .tc main_v12_2)) slices_S4x128x64_S1x128x64_3_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_3)) slices_S4x64_S1x64_3_0) shapeCasts_S1x64_S64))))) (shapeCast S64x64 (extractStridedSlice S1x64x64 ![3, 0, 0] (V0 (Proc.devRef .tc main_v12_4)) slices_S4x64x64_S1x64x64_3_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_5)) slices_S4x64_S1x64_3_0) shapeCasts_S1x64_S64))))) (broadcastInDim S16x2450x64 ![0, 1, 2] bcast_S16x2450x1_S16x2450x64_0_1_2 (extractStridedSlice S16x2450x1 ![0, 0, 3] (V0 (Proc.devRef .tc main_v12_6)) slices_S16x2450x4_S16x2450x1_0_0_3)) : (Proc.devRef .tc main_while0b_v98 : DevRef τ sig).ty.Contents (Elt F)) = Cert.ReferenceIdeal.Step.b91 j s := by
  unfold Cert.ReferenceIdeal.Step.b91
  rw [← al_88 h, ← al_90 h]
  try rfl
set_option maxRecDepth 8192 in
theorem al_92 (h : Holds V0 s j) : (constant S_ .f32 0x40400000#32 : (Proc.devRef .tc main_while0b_cst_34 : DevRef τ sig).ty.Contents (Elt F)) = Cert.ReferenceIdeal.Step.b92 j s := by
  unfold Cert.ReferenceIdeal.Step.b92
  rfl
set_option maxRecDepth 8192 in
theorem al_93 (h : Holds V0 s j) : (broadcastInDim S16x2450x64 ![] bcast_S_S16x2450x64 (constant S_ .f32 0x40400000#32) : (Proc.devRef .tc main_while0b_v99 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (Host.divf (mulf (Host.tanh (addf (Host.dotGeneral dot_S16x2450x64_S64x64_S16x2450x64_2_0_01_1_n_n none (Host.tanh (addf (Host.dotGeneral dot_S16x2450x128_S128x64_S16x2450x64_2_0_01_1_n_n none (res_main_while0b_v28 V0) (shapeCast S128x64 (extractStridedSlice S1x128x64 ![3, 0, 0] (V0 (Proc.devRef .tc main_v12_2)) slices_S4x128x64_S1x128x64_3_0_0) shapeCasts_S1x128x64_S128x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_3)) slices_S4x64_S1x64_3_0) shapeCasts_S1x64_S64))))) (shapeCast S64x64 (extractStridedSlice S1x64x64 ![3, 0, 0] (V0 (Proc.devRef .tc main_v12_4)) slices_S4x64x64_S1x64x64_3_0_0) shapeCasts_S1x64x64_S64x64)) (broadcastInDim S16x2450x64 ![0, 1, 2] bcast_S1x1x64_S16x2450x64_0_1_2 (broadcastInDim S1x1x64 ![2] bcast_S64_S1x1x64_2 (shapeCast S64 (extractStridedSlice S1x64 ![3, 0] (V0 (Proc.devRef .tc main_v12_5)) slices_S4x64_S1x64_3_0) shapeCasts_S1x64_S64))))) (broadcastInDim S16x2450x64 ![0, 1, 2] bcast_S16x2450x1_S16x2450x64_0_1_2 (extractStridedSlice S16x2450x1 ![0, 0, 3] (V0 (Proc.devRef .tc main_v12_6)) slices_S16x2450x4_S16x2450x1_0_0_3))) (broadcastInDim S16x2450x64 ![] bcast_S_S16x2450x64 (constant S_ .f32 0x40400000#32)) : (Proc.devRef .tc main_while0b_v100 : DevRef τ sig).ty.Contents (Elt F)) = Cert.ReferenceIdeal.Step.b94 j s := by
  unfold Cert.ReferenceIdeal.Step.b94
  rw [← al_91 h, ← al_93 h]
  try rfl
set_option maxRecDepth 8192 in
theorem al_95 (h : Holds V0 s j) : (res_main_while0b_v101 V0 : (Proc.devRef .tc main_while0b_v101 : DevRef τ sig).ty.Contents (Elt F)) = Cert.ReferenceIdeal.Step.b95 j s := by
  unfold res_main_while0b_v101 Cert.ReferenceIdeal.Step.b95
  rw [← al_70 h, ← al_94 h]
  try rfl
set_option maxRecDepth 8192 in
theorem al_96 (h : Holds V0 s j) : (constant S_ .f32 0x00000000#32 : (Proc.devRef .tc main_while0b_cst_35 : DevRef τ sig).ty.Contents (Elt F)) = Cert.ReferenceIdeal.Step.b96 j s := by
  unfold Cert.ReferenceIdeal.Step.b96
  rfl
set_option maxRecDepth 8192 in
theorem al_97 (h : Holds V0 s j) : (broadcastInDim S50x64 ![] bcast_S_S50x64 (constant S_ .f32 0x00000000#32) : (Proc.devRef .tc main_while0b_v102 : DevRef τ sig).ty.Contents (Elt F)) = Cert.ReferenceIdeal.Step.b97 j s := by
  unfold Cert.ReferenceIdeal.Step.b97
  rw [← al_96 h]
  try rfl
set_option maxRecDepth 8192 in
theorem al_98 (h : Holds V0 s j) : (broadcastInDim S2450x1 ![0] bcast_S2450_S2450x1_0 (V0 (Proc.devRef .tc main_v12_0)) : (Proc.devRef .tc main_while0b_v103 : DevRef τ sig).ty.Contents (Elt F)) = Cert.ReferenceIdeal.Step.b98 j s := by
  unfold Cert.ReferenceIdeal.Step.b98
  rw [h.k_0]
  try rfl
set_option maxRecDepth 8192 in
theorem al_99 (h : Holds V0 s j) : (broadcastInDim S16x50x64 ![1, 2] bcast_S50x64_S16x50x64_1_2 (broadcastInDim S50x64 ![] bcast_S_S50x64 (constant S_ .f32 0x00000000#32)) : (Proc.devRef .tc main_while0b_v104 : DevRef τ sig).ty.Contents (Elt F)) = Cert.ReferenceIdeal.Step.b99 j s := by
  unfold Cert.ReferenceIdeal.Step.b99
  rw [← al_97 h]
  try rfl
set_option maxRecDepth 8192 in
theorem al_100 (h : Holds V0 s j) : (Host.scatterAdd scatter_S16x50x64_S2450x1_S16x2450x64_02_1_1_1 (broadcastInDim S16x50x64 ![1, 2] bcast_S50x64_S16x50x64_1_2 (broadcastInDim S50x64 ![] bcast_S_S50x64 (constant S_ .f32 0x00000000#32))) (broadcastInDim S2450x1 ![0] bcast_S2450_S2450x1_0 (V0 (Proc.devRef .tc main_v12_0))) (res_main_while0b_v101 V0) : (Proc.devRef .tc main_while0b_v105 : DevRef τ sig).ty.Contents (Elt F)) = Cert.ReferenceIdeal.Step.b100 j s := by
  unfold Cert.ReferenceIdeal.Step.b100
  rw [← al_99 h, ← al_98 h, ← al_95 h]
  try rfl
set_option maxRecDepth 8192 in
theorem al_101 (h : Holds V0 s j) : (constant S_ .f32 0x42440000#32 : (Proc.devRef .tc main_while0b_cst_36 : DevRef τ sig).ty.Contents (Elt F)) = Cert.ReferenceIdeal.Step.b101 j s := by
  unfold Cert.ReferenceIdeal.Step.b101
  rfl
set_option maxRecDepth 8192 in
theorem al_102 (h : Holds V0 s j) : (broadcastInDim S16x50x64 ![] bcast_S_S16x50x64 (constant S_ .f32 0x42440000#32) : (Proc.devRef .tc main_while0b_v106 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (res_main_while0b_v107 V0 : (Proc.devRef .tc main_while0b_v107 : DevRef τ sig).ty.Contents (Elt F)) = Cert.ReferenceIdeal.Step.b103 j s := by
  unfold res_main_while0b_v107 Cert.ReferenceIdeal.Step.b103
  rw [← al_100 h, ← al_102 h]
  try rfl
set_option maxRecDepth 8192 in
theorem al_104 (h : Holds V0 s j) : (Host.dotGeneral dot_S16x50x4_S4x64_S16x50x64_2_0_01_1_n_n none (V0 (Proc.devRef .tc main_v12_24)) (V0 (Proc.devRef .tc main_v12_7)) : (Proc.devRef .tc main_while0b_v108 : DevRef τ sig).ty.Contents (Elt F)) = Cert.ReferenceIdeal.Step.b104 j s := by
  unfold Cert.ReferenceIdeal.Step.b104
  rw [h.f_24, h.f_7]
  try rfl
set_option maxRecDepth 8192 in
theorem al_105 (h : Holds V0 s j) : (broadcastInDim S1x1x64 ![2] bcast_S64_S1x1x64_2 (V0 (Proc.devRef .tc main_v12_8)) : (Proc.devRef .tc main_while0b_v109 : DevRef τ sig).ty.Contents (Elt F)) = Cert.ReferenceIdeal.Step.b105 j s := by
  unfold Cert.ReferenceIdeal.Step.b105
  rw [h.f_8]
  try rfl
set_option maxRecDepth 8192 in
theorem al_106 (h : Holds V0 s j) : (broadcastInDim S16x50x64 ![0, 1, 2] bcast_S1x1x64_S16x50x64_0_1_2 (broadcastInDim S1x1x64 ![2] bcast_S64_S1x1x64_2 (V0 (Proc.devRef .tc main_v12_8))) : (Proc.devRef .tc main_while0b_v110 : DevRef τ sig).ty.Contents (Elt F)) = Cert.ReferenceIdeal.Step.b106 j s := by
  unfold Cert.ReferenceIdeal.Step.b106
  rw [← al_105 h]
  try rfl
set_option maxRecDepth 8192 in
theorem al_107 (h : Holds V0 s j) : (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8)))) : (Proc.devRef .tc main_while0b_v111 : DevRef τ sig).ty.Contents (Elt F)) = Cert.ReferenceIdeal.Step.b107 j s := by
  unfold Cert.ReferenceIdeal.Step.b107
  rw [← al_104 h, ← al_106 h]
  try rfl
set_option maxRecDepth 8192 in
theorem al_108 (h : Holds V0 s j) : (Host.dotGeneral dot_S16x50x64_S64x64_S16x50x64_2_0_01_1_n_n none (res_main_while0b_v107 V0) (V0 (Proc.devRef .tc main_v12_9)) : (Proc.devRef .tc main_while0b_v112 : DevRef τ sig).ty.Contents (Elt F)) = Cert.ReferenceIdeal.Step.b108 j s := by
  unfold Cert.ReferenceIdeal.Step.b108
  rw [← al_103 h, h.f_9]
  try rfl
set_option maxRecDepth 8192 in
theorem al_109 (h : Holds V0 s j) : (addf (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8))))) (Host.dotGeneral dot_S16x50x64_S64x64_S16x50x64_2_0_01_1_n_n none (res_main_while0b_v107 V0) (V0 (Proc.devRef .tc main_v12_9))) : (Proc.devRef .tc main_while0b_v113 : DevRef τ sig).ty.Contents (Elt F)) = Cert.ReferenceIdeal.Step.b109 j s := by
  unfold Cert.ReferenceIdeal.Step.b109
  rw [← al_107 h, ← al_108 h]
  try rfl
set_option maxRecDepth 8192 in
theorem al_110 (h : Holds V0 s j) : (Host.negf (addf (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8))))) (Host.dotGeneral dot_S16x50x64_S64x64_S16x50x64_2_0_01_1_n_n none (res_main_while0b_v107 V0) (V0 (Proc.devRef .tc main_v12_9)))) : (Proc.devRef .tc main_while0b_v114 : DevRef τ sig).ty.Contents (Elt F)) = Cert.ReferenceIdeal.Step.b110 j s := by
  unfold Cert.ReferenceIdeal.Step.b110
  rw [← al_109 h]
  try rfl
set_option maxRecDepth 8192 in
theorem al_111 (h : Holds V0 s j) : (Host.exp (Host.negf (addf (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8))))) (Host.dotGeneral dot_S16x50x64_S64x64_S16x50x64_2_0_01_1_n_n none (res_main_while0b_v107 V0) (V0 (Proc.devRef .tc main_v12_9))))) : (Proc.devRef .tc main_while0b_v115 : DevRef τ sig).ty.Contents (Elt F)) = Cert.ReferenceIdeal.Step.b111 j s := by
  unfold Cert.ReferenceIdeal.Step.b111
  rw [← al_110 h]
  try rfl
set_option maxRecDepth 8192 in
theorem al_112 (h : Holds V0 s j) : (constant S_ .f32 0x3F800000#32 : (Proc.devRef .tc main_while0b_cst_37 : DevRef τ sig).ty.Contents (Elt F)) = Cert.ReferenceIdeal.Step.b112 j s := by
  unfold Cert.ReferenceIdeal.Step.b112
  rfl
set_option maxRecDepth 8192 in
theorem al_113 (h : Holds V0 s j) : (broadcastInDim S16x50x64 ![] bcast_S_S16x50x64 (constant S_ .f32 0x3F800000#32) : (Proc.devRef .tc main_while0b_v116 : DevRef τ sig).ty.Contents (Elt F)) = Cert.ReferenceIdeal.Step.b113 j s := by
  unfold Cert.ReferenceIdeal.Step.b113
  rw [← al_112 h]
  try rfl
set_option maxRecDepth 8192 in
theorem al_114 (h : Holds V0 s j) : (addf (broadcastInDim S16x50x64 ![] bcast_S_S16x50x64 (constant S_ .f32 0x3F800000#32)) (Host.exp (Host.negf (addf (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8))))) (Host.dotGeneral dot_S16x50x64_S64x64_S16x50x64_2_0_01_1_n_n none (res_main_while0b_v107 V0) (V0 (Proc.devRef .tc main_v12_9)))))) : (Proc.devRef .tc main_while0b_v117 : DevRef τ sig).ty.Contents (Elt F)) = Cert.ReferenceIdeal.Step.b114 j s := by
  unfold Cert.ReferenceIdeal.Step.b114
  rw [← al_113 h, ← al_111 h]
  try rfl
set_option maxRecDepth 8192 in
theorem al_115 (h : Holds V0 s j) : (constant S_ .f32 0x3F800000#32 : (Proc.devRef .tc main_while0b_cst_38 : DevRef τ sig).ty.Contents (Elt F)) = Cert.ReferenceIdeal.Step.b115 j s := by
  unfold Cert.ReferenceIdeal.Step.b115
  rfl
set_option maxRecDepth 8192 in
theorem al_116 (h : Holds V0 s j) : (broadcastInDim S16x50x64 ![] bcast_S_S16x50x64 (constant S_ .f32 0x3F800000#32) : (Proc.devRef .tc main_while0b_v118 : DevRef τ sig).ty.Contents (Elt F)) = Cert.ReferenceIdeal.Step.b116 j s := by
  unfold Cert.ReferenceIdeal.Step.b116
  rw [← al_115 h]
  try rfl
set_option maxRecDepth 8192 in
theorem al_117 (h : Holds V0 s j) : (Host.divf (broadcastInDim S16x50x64 ![] bcast_S_S16x50x64 (constant S_ .f32 0x3F800000#32)) (addf (broadcastInDim S16x50x64 ![] bcast_S_S16x50x64 (constant S_ .f32 0x3F800000#32)) (Host.exp (Host.negf (addf (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8))))) (Host.dotGeneral dot_S16x50x64_S64x64_S16x50x64_2_0_01_1_n_n none (res_main_while0b_v107 V0) (V0 (Proc.devRef .tc main_v12_9))))))) : (Proc.devRef .tc main_while0b_v119 : DevRef τ sig).ty.Contents (Elt F)) = Cert.ReferenceIdeal.Step.b117 j s := by
  unfold Cert.ReferenceIdeal.Step.b117
  rw [← al_116 h, ← al_114 h]
  try rfl
set_option maxRecDepth 8192 in
theorem al_118 (h : Holds V0 s j) : (Host.dotGeneral dot_S16x50x4_S4x64_S16x50x64_2_0_01_1_n_n none (V0 (Proc.devRef .tc main_v12_24)) (V0 (Proc.devRef .tc main_v12_10)) : (Proc.devRef .tc main_while0b_v120 : DevRef τ sig).ty.Contents (Elt F)) = Cert.ReferenceIdeal.Step.b118 j s := by
  unfold Cert.ReferenceIdeal.Step.b118
  rw [h.f_24, h.f_10]
  try rfl
set_option maxRecDepth 8192 in
theorem al_119 (h : Holds V0 s j) : (broadcastInDim S1x1x64 ![2] bcast_S64_S1x1x64_2 (V0 (Proc.devRef .tc main_v12_11)) : (Proc.devRef .tc main_while0b_v121 : DevRef τ sig).ty.Contents (Elt F)) = Cert.ReferenceIdeal.Step.b119 j s := by
  unfold Cert.ReferenceIdeal.Step.b119
  rw [h.f_11]
  try rfl
set_option maxRecDepth 8192 in
theorem al_120 (h : Holds V0 s j) : (broadcastInDim S16x50x64 ![0, 1, 2] bcast_S1x1x64_S16x50x64_0_1_2 (broadcastInDim S1x1x64 ![2] bcast_S64_S1x1x64_2 (V0 (Proc.devRef .tc main_v12_11))) : (Proc.devRef .tc main_while0b_v122 : DevRef τ sig).ty.Contents (Elt F)) = Cert.ReferenceIdeal.Step.b120 j s := by
  unfold Cert.ReferenceIdeal.Step.b120
  rw [← al_119 h]
  try rfl
set_option maxRecDepth 8192 in
theorem al_121 (h : Holds V0 s j) : (addf (Host.dotGeneral dot_S16x50x4_S4x64_S16x50x64_2_0_01_1_n_n none (V0 (Proc.devRef .tc main_v12_24)) (V0 (Proc.devRef .tc main_v12_10))) (broadcastInDim S16x50x64 ![0, 1, 2] bcast_S1x1x64_S16x50x64_0_1_2 (broadcastInDim S1x1x64 ![2] bcast_S64_S1x1x64_2 (V0 (Proc.devRef .tc main_v12_11)))) : (Proc.devRef .tc main_while0b_v123 : DevRef τ sig).ty.Contents (Elt F)) = Cert.ReferenceIdeal.Step.b121 j s := by
  unfold Cert.ReferenceIdeal.Step.b121
  rw [← al_118 h, ← al_120 h]
  try rfl
set_option maxRecDepth 8192 in
theorem al_122 (h : Holds V0 s j) : (Host.dotGeneral dot_S16x50x64_S64x64_S16x50x64_2_0_01_1_n_n none (res_main_while0b_v107 V0) (V0 (Proc.devRef .tc main_v12_12)) : (Proc.devRef .tc main_while0b_v124 : DevRef τ sig).ty.Contents (Elt F)) = Cert.ReferenceIdeal.Step.b122 j s := by
  unfold Cert.ReferenceIdeal.Step.b122
  rw [← al_103 h, h.f_12]
  try rfl
set_option maxRecDepth 8192 in
theorem al_123 (h : Holds V0 s j) : (addf (addf (Host.dotGeneral dot_S16x50x4_S4x64_S16x50x64_2_0_01_1_n_n none (V0 (Proc.devRef .tc main_v12_24)) (V0 (Proc.devRef .tc main_v12_10))) (broadcastInDim S16x50x64 ![0, 1, 2] bcast_S1x1x64_S16x50x64_0_1_2 (broadcastInDim S1x1x64 ![2] bcast_S64_S1x1x64_2 (V0 (Proc.devRef .tc main_v12_11))))) (Host.dotGeneral dot_S16x50x64_S64x64_S16x50x64_2_0_01_1_n_n none (res_main_while0b_v107 V0) (V0 (Proc.devRef .tc main_v12_12))) : (Proc.devRef .tc main_while0b_v125 : DevRef τ sig).ty.Contents (Elt F)) = Cert.ReferenceIdeal.Step.b123 j s := by
  unfold Cert.ReferenceIdeal.Step.b123
  rw [← al_121 h, ← al_122 h]
  try rfl
set_option maxRecDepth 8192 in
theorem al_124 (h : Holds V0 s j) : (Host.negf (addf (addf (Host.dotGeneral dot_S16x50x4_S4x64_S16x50x64_2_0_01_1_n_n none (V0 (Proc.devRef .tc main_v12_24)) (V0 (Proc.devRef .tc main_v12_10))) (broadcastInDim S16x50x64 ![0, 1, 2] bcast_S1x1x64_S16x50x64_0_1_2 (broadcastInDim S1x1x64 ![2] bcast_S64_S1x1x64_2 (V0 (Proc.devRef .tc main_v12_11))))) (Host.dotGeneral dot_S16x50x64_S64x64_S16x50x64_2_0_01_1_n_n none (res_main_while0b_v107 V0) (V0 (Proc.devRef .tc main_v12_12)))) : (Proc.devRef .tc main_while0b_v126 : DevRef τ sig).ty.Contents (Elt F)) = Cert.ReferenceIdeal.Step.b124 j s := by
  unfold Cert.ReferenceIdeal.Step.b124
  rw [← al_123 h]
  try rfl
set_option maxRecDepth 8192 in
theorem al_125 (h : Holds V0 s j) : (Host.exp (Host.negf (addf (addf (Host.dotGeneral dot_S16x50x4_S4x64_S16x50x64_2_0_01_1_n_n none (V0 (Proc.devRef .tc main_v12_24)) (V0 (Proc.devRef .tc main_v12_10))) (broadcastInDim S16x50x64 ![0, 1, 2] bcast_S1x1x64_S16x50x64_0_1_2 (broadcastInDim S1x1x64 ![2] bcast_S64_S1x1x64_2 (V0 (Proc.devRef .tc main_v12_11))))) (Host.dotGeneral dot_S16x50x64_S64x64_S16x50x64_2_0_01_1_n_n none (res_main_while0b_v107 V0) (V0 (Proc.devRef .tc main_v12_12))))) : (Proc.devRef .tc main_while0b_v127 : DevRef τ sig).ty.Contents (Elt F)) = Cert.ReferenceIdeal.Step.b125 j s := by
  unfold Cert.ReferenceIdeal.Step.b125
  rw [← al_124 h]
  try rfl
set_option maxRecDepth 8192 in
theorem al_126 (h : Holds V0 s j) : (constant S_ .f32 0x3F800000#32 : (Proc.devRef .tc main_while0b_cst_39 : DevRef τ sig).ty.Contents (Elt F)) = Cert.ReferenceIdeal.Step.b126 j s := by
  unfold Cert.ReferenceIdeal.Step.b126
  rfl
set_option maxRecDepth 8192 in
theorem al_127 (h : Holds V0 s j) : (broadcastInDim S16x50x64 ![] bcast_S_S16x50x64 (constant S_ .f32 0x3F800000#32) : (Proc.devRef .tc main_while0b_v128 : DevRef τ sig).ty.Contents (Elt F)) = Cert.ReferenceIdeal.Step.b127 j s := by
  unfold Cert.ReferenceIdeal.Step.b127
  rw [← al_126 h]
  try rfl
set_option maxRecDepth 8192 in
theorem al_128 (h : Holds V0 s j) : (addf (broadcastInDim S16x50x64 ![] bcast_S_S16x50x64 (constant S_ .f32 0x3F800000#32)) (Host.exp (Host.negf (addf (addf (Host.dotGeneral dot_S16x50x4_S4x64_S16x50x64_2_0_01_1_n_n none (V0 (Proc.devRef .tc main_v12_24)) (V0 (Proc.devRef .tc main_v12_10))) (broadcastInDim S16x50x64 ![0, 1, 2] bcast_S1x1x64_S16x50x64_0_1_2 (broadcastInDim S1x1x64 ![2] bcast_S64_S1x1x64_2 (V0 (Proc.devRef .tc main_v12_11))))) (Host.dotGeneral dot_S16x50x64_S64x64_S16x50x64_2_0_01_1_n_n none (res_main_while0b_v107 V0) (V0 (Proc.devRef .tc main_v12_12)))))) : (Proc.devRef .tc main_while0b_v129 : DevRef τ sig).ty.Contents (Elt F)) = Cert.ReferenceIdeal.Step.b128 j s := by
  unfold Cert.ReferenceIdeal.Step.b128
  rw [← al_127 h, ← al_125 h]
  try rfl
set_option maxRecDepth 8192 in
theorem al_129 (h : Holds V0 s j) : (constant S_ .f32 0x3F800000#32 : (Proc.devRef .tc main_while0b_cst_40 : DevRef τ sig).ty.Contents (Elt F)) = Cert.ReferenceIdeal.Step.b129 j s := by
  unfold Cert.ReferenceIdeal.Step.b129
  rfl
set_option maxRecDepth 8192 in
theorem al_130 (h : Holds V0 s j) : (broadcastInDim S16x50x64 ![] bcast_S_S16x50x64 (constant S_ .f32 0x3F800000#32) : (Proc.devRef .tc main_while0b_v130 : DevRef τ sig).ty.Contents (Elt F)) = Cert.ReferenceIdeal.Step.b130 j s := by
  unfold Cert.ReferenceIdeal.Step.b130
  rw [← al_129 h]
  try rfl
set_option maxRecDepth 8192 in
theorem al_131 (h : Holds V0 s j) : (res_main_while0b_v131 V0 : (Proc.devRef .tc main_while0b_v131 : DevRef τ sig).ty.Contents (Elt F)) = Cert.ReferenceIdeal.Step.b131 j s := by
  unfold res_main_while0b_v131 Cert.ReferenceIdeal.Step.b131
  rw [← al_130 h, ← al_128 h]
  try rfl
set_option maxRecDepth 8192 in
theorem al_132 (h : Holds V0 s j) : (Host.dotGeneral dot_S16x50x4_S4x64_S16x50x64_2_0_01_1_n_n none (V0 (Proc.devRef .tc main_v12_24)) (V0 (Proc.devRef .tc main_v12_13)) : (Proc.devRef .tc main_while0b_v132 : DevRef τ sig).ty.Contents (Elt F)) = Cert.ReferenceIdeal.Step.b132 j s := by
  unfold Cert.ReferenceIdeal.Step.b132
  rw [h.f_24, h.f_13]
  try rfl
set_option maxRecDepth 8192 in
theorem al_133 (h : Holds V0 s j) : (broadcastInDim S1x1x64 ![2] bcast_S64_S1x1x64_2 (V0 (Proc.devRef .tc main_v12_14)) : (Proc.devRef .tc main_while0b_v133 : DevRef τ sig).ty.Contents (Elt F)) = Cert.ReferenceIdeal.Step.b133 j s := by
  unfold Cert.ReferenceIdeal.Step.b133
  rw [h.f_14]
  try rfl
set_option maxRecDepth 8192 in
theorem al_134 (h : Holds V0 s j) : (broadcastInDim S16x50x64 ![0, 1, 2] bcast_S1x1x64_S16x50x64_0_1_2 (broadcastInDim S1x1x64 ![2] bcast_S64_S1x1x64_2 (V0 (Proc.devRef .tc main_v12_14))) : (Proc.devRef .tc main_while0b_v134 : DevRef τ sig).ty.Contents (Elt F)) = Cert.ReferenceIdeal.Step.b134 j s := by
  unfold Cert.ReferenceIdeal.Step.b134
  rw [← al_133 h]
  try rfl
set_option maxRecDepth 8192 in
theorem al_135 (h : Holds V0 s j) : (addf (Host.dotGeneral dot_S16x50x4_S4x64_S16x50x64_2_0_01_1_n_n none (V0 (Proc.devRef .tc main_v12_24)) (V0 (Proc.devRef .tc main_v12_13))) (broadcastInDim S16x50x64 ![0, 1, 2] bcast_S1x1x64_S16x50x64_0_1_2 (broadcastInDim S1x1x64 ![2] bcast_S64_S1x1x64_2 (V0 (Proc.devRef .tc main_v12_14)))) : (Proc.devRef .tc main_while0b_v135 : DevRef τ sig).ty.Contents (Elt F)) = Cert.ReferenceIdeal.Step.b135 j s := by
  unfold Cert.ReferenceIdeal.Step.b135
  rw [← al_132 h, ← al_134 h]
  try rfl
set_option maxRecDepth 8192 in
theorem al_136 (h : Holds V0 s j) : (Host.dotGeneral dot_S16x50x64_S64x64_S16x50x64_2_0_01_1_n_n none (res_main_while0b_v107 V0) (V0 (Proc.devRef .tc main_v12_15)) : (Proc.devRef .tc main_while0b_v136 : DevRef τ sig).ty.Contents (Elt F)) = Cert.ReferenceIdeal.Step.b136 j s := by
  unfold Cert.ReferenceIdeal.Step.b136
  rw [← al_103 h, h.f_15]
  try rfl
set_option maxRecDepth 8192 in
theorem al_137 (h : Holds V0 s j) : (mulf (Host.divf (broadcastInDim S16x50x64 ![] bcast_S_S16x50x64 (constant S_ .f32 0x3F800000#32)) (addf (broadcastInDim S16x50x64 ![] bcast_S_S16x50x64 (constant S_ .f32 0x3F800000#32)) (Host.exp (Host.negf (addf (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8))))) (Host.dotGeneral dot_S16x50x64_S64x64_S16x50x64_2_0_01_1_n_n none (res_main_while0b_v107 V0) (V0 (Proc.devRef .tc main_v12_9)))))))) (Host.dotGeneral dot_S16x50x64_S64x64_S16x50x64_2_0_01_1_n_n none (res_main_while0b_v107 V0) (V0 (Proc.devRef .tc main_v12_15))) : (Proc.devRef .tc main_while0b_v137 : DevRef τ sig).ty.Contents (Elt F)) = Cert.ReferenceIdeal.Step.b137 j s := by
  unfold Cert.ReferenceIdeal.Step.b137
  rw [← al_117 h, ← al_136 h]
  try rfl
set_option maxRecDepth 8192 in
theorem al_138 (h : Holds V0 s j) : (addf (addf (Host.dotGeneral dot_S16x50x4_S4x64_S16x50x64_2_0_01_1_n_n none (V0 (Proc.devRef .tc main_v12_24)) (V0 (Proc.devRef .tc main_v12_13))) (broadcastInDim S16x50x64 ![0, 1, 2] bcast_S1x1x64_S16x50x64_0_1_2 (broadcastInDim S1x1x64 ![2] bcast_S64_S1x1x64_2 (V0 (Proc.devRef .tc main_v12_14))))) (mulf (Host.divf (broadcastInDim S16x50x64 ![] bcast_S_S16x50x64 (constant S_ .f32 0x3F800000#32)) (addf (broadcastInDim S16x50x64 ![] bcast_S_S16x50x64 (constant S_ .f32 0x3F800000#32)) (Host.exp (Host.negf (addf (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8))))) (Host.dotGeneral dot_S16x50x64_S64x64_S16x50x64_2_0_01_1_n_n none (res_main_while0b_v107 V0) (V0 (Proc.devRef .tc main_v12_9)))))))) (Host.dotGeneral dot_S16x50x64_S64x64_S16x50x64_2_0_01_1_n_n none (res_main_while0b_v107 V0) (V0 (Proc.devRef .tc main_v12_15)))) : (Proc.devRef .tc main_while0b_v138 : DevRef τ sig).ty.Contents (Elt F)) = Cert.ReferenceIdeal.Step.b138 j s := by
  unfold Cert.ReferenceIdeal.Step.b138
  rw [← al_135 h, ← al_137 h]
  try rfl
set_option maxRecDepth 8192 in
theorem al_139 (h : Holds V0 s j) : (Host.tanh (addf (addf (Host.dotGeneral dot_S16x50x4_S4x64_S16x50x64_2_0_01_1_n_n none (V0 (Proc.devRef .tc main_v12_24)) (V0 (Proc.devRef .tc main_v12_13))) (broadcastInDim S16x50x64 ![0, 1, 2] bcast_S1x1x64_S16x50x64_0_1_2 (broadcastInDim S1x1x64 ![2] bcast_S64_S1x1x64_2 (V0 (Proc.devRef .tc main_v12_14))))) (mulf (Host.divf (broadcastInDim S16x50x64 ![] bcast_S_S16x50x64 (constant S_ .f32 0x3F800000#32)) (addf (broadcastInDim S16x50x64 ![] bcast_S_S16x50x64 (constant S_ .f32 0x3F800000#32)) (Host.exp (Host.negf (addf (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8))))) (Host.dotGeneral dot_S16x50x64_S64x64_S16x50x64_2_0_01_1_n_n none (res_main_while0b_v107 V0) (V0 (Proc.devRef .tc main_v12_9)))))))) (Host.dotGeneral dot_S16x50x64_S64x64_S16x50x64_2_0_01_1_n_n none (res_main_while0b_v107 V0) (V0 (Proc.devRef .tc main_v12_15))))) : (Proc.devRef .tc main_while0b_v139 : DevRef τ sig).ty.Contents (Elt F)) = Cert.ReferenceIdeal.Step.b139 j s := by
  unfold Cert.ReferenceIdeal.Step.b139
  rw [← al_138 h]
  try rfl
set_option maxRecDepth 8192 in
theorem al_140 (h : Holds V0 s j) : (constant S_ .f32 0x3F800000#32 : (Proc.devRef .tc main_while0b_cst_41 : DevRef τ sig).ty.Contents (Elt F)) = Cert.ReferenceIdeal.Step.b140 j s := by
  unfold Cert.ReferenceIdeal.Step.b140
  rfl
set_option maxRecDepth 8192 in
theorem al_141 (h : Holds V0 s j) : (broadcastInDim S16x50x64 ![] bcast_S_S16x50x64 (constant S_ .f32 0x3F800000#32) : (Proc.devRef .tc main_while0b_v140 : DevRef τ sig).ty.Contents (Elt F)) = Cert.ReferenceIdeal.Step.b141 j s := by
  unfold Cert.ReferenceIdeal.Step.b141
  rw [← al_140 h]
  try rfl
set_option maxRecDepth 8192 in
theorem al_142 (h : Holds V0 s j) : (subf (broadcastInDim S16x50x64 ![] bcast_S_S16x50x64 (constant S_ .f32 0x3F800000#32)) (res_main_while0b_v131 V0) : (Proc.devRef .tc main_while0b_v141 : DevRef τ sig).ty.Contents (Elt F)) = Cert.ReferenceIdeal.Step.b142 j s := by
  unfold Cert.ReferenceIdeal.Step.b142
  rw [← al_141 h, ← al_131 h]
  try rfl
set_option maxRecDepth 8192 in
theorem al_143 (h : Holds V0 s j) : (mulf (subf (broadcastInDim S16x50x64 ![] bcast_S_S16x50x64 (constant S_ .f32 0x3F800000#32)) (res_main_while0b_v131 V0)) (Host.tanh (addf (addf (Host.dotGeneral dot_S16x50x4_S4x64_S16x50x64_2_0_01_1_n_n none (V0 (Proc.devRef .tc main_v12_24)) (V0 (Proc.devRef .tc main_v12_13))) (broadcastInDim S16x50x64 ![0, 1, 2] bcast_S1x1x64_S16x50x64_0_1_2 (broadcastInDim S1x1x64 ![2] bcast_S64_S1x1x64_2 (V0 (Proc.devRef .tc main_v12_14))))) (mulf (Host.divf (broadcastInDim S16x50x64 ![] bcast_S_S16x50x64 (constant S_ .f32 0x3F800000#32)) (addf (broadcastInDim S16x50x64 ![] bcast_S_S16x50x64 (constant S_ .f32 0x3F800000#32)) (Host.exp (Host.negf (addf (addf (Host.dotGeneral dot_S16x50x4_S4x64_S16x50x64_2_0_01_1_n_n none (V0 (Proc.devRef .tc main_v12_24)) (V0 (Proc.devRef .tc main_v12_7))) (broadcastInDim S16x50x64 ![0, 1, 2] bcast_S1x1x64_S16x50x64_0_1_2 (broadcastInDim S1x1x64 ![2] bcast_S64_S1x1x64_2 (V0 (Proc.devRef .tc main_v12_8))))) (Host.dotGeneral dot_S16x50x64_S64x64_S16x50x64_2_0_01_1_n_n none (res_main_while0b_v107 V0) (V0 (Proc.devRef .tc main_v12_9)))))))) (Host.dotGeneral dot_S16x50x64_S64x64_S16x50x64_2_0_01_1_n_n none (res_main_while0b_v107 V0) (V0 (Proc.devRef .tc main_v12_15)))))) : (Proc.devRef .tc main_while0b_v142 : DevRef τ sig).ty.Contents (Elt F)) = Cert.ReferenceIdeal.Step.b143 j s := by
  unfold Cert.ReferenceIdeal.Step.b143
  rw [← al_142 h, ← al_139 h]
  try rfl
set_option maxRecDepth 8192 in
theorem al_144 (h : Holds V0 s j) : (mulf (res_main_while0b_v131 V0) (V0 (Proc.devRef .tc main_v12_23)) : (Proc.devRef .tc main_while0b_v143 : DevRef τ sig).ty.Contents (Elt F)) = Cert.ReferenceIdeal.Step.b144 j s := by
  unfold Cert.ReferenceIdeal.Step.b144
  rw [← al_131 h, h.f_23]
  try rfl
set_option maxRecDepth 8192 in
theorem al_145 (h : Holds V0 s j) : (res_main_while0b_v144 V0 : (Proc.devRef .tc main_while0b_v144 : DevRef τ sig).ty.Contents (Elt F)) = Cert.ReferenceIdeal.Step.b145 j s := by
  unfold res_main_while0b_v144 Cert.ReferenceIdeal.Step.b145
  rw [← al_143 h, ← al_144 h]
  try rfl
set_option maxRecDepth 8192 in
theorem al_146 (h : Holds V0 s j) : (Host.dotGeneral dot_S16x50x64_S64x64_S16x50x64_2_0_01_1_n_n none (res_main_while0b_v144 V0) (V0 (Proc.devRef .tc main_v12_16)) : (Proc.devRef .tc main_while0b_v145 : DevRef τ sig).ty.Contents (Elt F)) = Cert.ReferenceIdeal.Step.b146 j s := by
  unfold Cert.ReferenceIdeal.Step.b146
  rw [← al_145 h, h.f_16]
  try rfl
set_option maxRecDepth 8192 in
theorem al_147 (h : Holds V0 s j) : (broadcastInDim S1x1x64 ![2] bcast_S64_S1x1x64_2 (V0 (Proc.devRef .tc main_v12_17)) : (Proc.devRef .tc main_while0b_v146 : DevRef τ sig).ty.Contents (Elt F)) = Cert.ReferenceIdeal.Step.b147 j s := by
  unfold Cert.ReferenceIdeal.Step.b147
  rw [h.f_17]
  try rfl
set_option maxRecDepth 8192 in
theorem al_148 (h : Holds V0 s j) : (broadcastInDim S16x50x64 ![0, 1, 2] bcast_S1x1x64_S16x50x64_0_1_2 (broadcastInDim S1x1x64 ![2] bcast_S64_S1x1x64_2 (V0 (Proc.devRef .tc main_v12_17))) : (Proc.devRef .tc main_while0b_v147 : DevRef τ sig).ty.Contents (Elt F)) = Cert.ReferenceIdeal.Step.b148 j s := by
  unfold Cert.ReferenceIdeal.Step.b148
  rw [← al_147 h]
  try rfl
set_option maxRecDepth 8192 in
theorem al_149 (h : Holds V0 s j) : (addf (Host.dotGeneral dot_S16x50x64_S64x64_S16x50x64_2_0_01_1_n_n none (res_main_while0b_v144 V0) (V0 (Proc.devRef .tc main_v12_16))) (broadcastInDim S16x50x64 ![0, 1, 2] bcast_S1x1x64_S16x50x64_0_1_2 (broadcastInDim S1x1x64 ![2] bcast_S64_S1x1x64_2 (V0 (Proc.devRef .tc main_v12_17)))) : (Proc.devRef .tc main_while0b_v148 : DevRef τ sig).ty.Contents (Elt F)) = Cert.ReferenceIdeal.Step.b149 j s := by
  unfold Cert.ReferenceIdeal.Step.b149
  rw [← al_146 h, ← al_148 h]
  try rfl
set_option maxRecDepth 8192 in
theorem al_150 (h : Holds V0 s j) : (constant S_ .f32 0x00000000#32 : (Proc.devRef .tc main_while0b_call0_cst : DevRef τ sig).ty.Contents (Elt F)) = Cert.ReferenceIdeal.Step.b150 j s := by
  unfold Cert.ReferenceIdeal.Step.b150
  rfl
set_option maxRecDepth 8192 in
theorem al_151 (h : Holds V0 s j) : (broadcastInDim S16x50x64 ![] bcast_S_S16x50x64 (constant S_ .f32 0x00000000#32) : (Proc.devRef .tc main_while0b_call0_v0 : DevRef τ sig).ty.Contents (Elt F)) = Cert.ReferenceIdeal.Step.b151 j s := by
  unfold Cert.ReferenceIdeal.Step.b151
  rw [← al_150 h]
  try rfl
set_option maxRecDepth 8192 in
theorem al_152 (h : Holds V0 s j) : (maximumf (addf (Host.dotGeneral dot_S16x50x64_S64x64_S16x50x64_2_0_01_1_n_n none (res_main_while0b_v144 V0) (V0 (Proc.devRef .tc main_v12_16))) (broadcastInDim S16x50x64 ![0, 1, 2] bcast_S1x1x64_S16x50x64_0_1_2 (broadcastInDim S1x1x64 ![2] bcast_S64_S1x1x64_2 (V0 (Proc.devRef .tc main_v12_17))))) (broadcastInDim S16x50x64 ![] bcast_S_S16x50x64 (constant S_ .f32 0x00000000#32)) : (Proc.devRef .tc main_while0b_v149 : DevRef τ sig).ty.Contents (Elt F)) = Cert.ReferenceIdeal.Step.b152 j s := by
  unfold Cert.ReferenceIdeal.Step.b152
  rw [← al_149 h, ← al_151 h]
  try rfl
set_option maxRecDepth 8192 in
theorem al_153 (h : Holds V0 s j) : (Host.dotGeneral dot_S16x50x64_S64x64_S16x50x64_2_0_01_1_n_n none (maximumf (addf (Host.dotGeneral dot_S16x50x64_S64x64_S16x50x64_2_0_01_1_n_n none (res_main_while0b_v144 V0) (V0 (Proc.devRef .tc main_v12_16))) (broadcastInDim S16x50x64 ![0, 1, 2] bcast_S1x1x64_S16x50x64_0_1_2 (broadcastInDim S1x1x64 ![2] bcast_S64_S1x1x64_2 (V0 (Proc.devRef .tc main_v12_17))))) (broadcastInDim S16x50x64 ![] bcast_S_S16x50x64 (constant S_ .f32 0x00000000#32))) (V0 (Proc.devRef .tc main_v12_18)) : (Proc.devRef .tc main_while0b_v150 : DevRef τ sig).ty.Contents (Elt F)) = Cert.ReferenceIdeal.Step.b153 j s := by
  unfold Cert.ReferenceIdeal.Step.b153
  rw [← al_152 h, h.f_18]
  try rfl
set_option maxRecDepth 8192 in
theorem al_154 (h : Holds V0 s j) : (broadcastInDim S1x1x64 ![2] bcast_S64_S1x1x64_2 (V0 (Proc.devRef .tc main_v12_19)) : (Proc.devRef .tc main_while0b_v151 : DevRef τ sig).ty.Contents (Elt F)) = Cert.ReferenceIdeal.Step.b154 j s := by
  unfold Cert.ReferenceIdeal.Step.b154
  rw [h.f_19]
  try rfl
set_option maxRecDepth 8192 in
theorem al_155 (h : Holds V0 s j) : (broadcastInDim S16x50x64 ![0, 1, 2] bcast_S1x1x64_S16x50x64_0_1_2 (broadcastInDim S1x1x64 ![2] bcast_S64_S1x1x64_2 (V0 (Proc.devRef .tc main_v12_19))) : (Proc.devRef .tc main_while0b_v152 : DevRef τ sig).ty.Contents (Elt F)) = Cert.ReferenceIdeal.Step.b155 j s := by
  unfold Cert.ReferenceIdeal.Step.b155
  rw [← al_154 h]
  try rfl
set_option maxRecDepth 8192 in
theorem al_156 (h : Holds V0 s j) : (addf (Host.dotGeneral dot_S16x50x64_S64x64_S16x50x64_2_0_01_1_n_n none (maximumf (addf (Host.dotGeneral dot_S16x50x64_S64x64_S16x50x64_2_0_01_1_n_n none (res_main_while0b_v144 V0) (V0 (Proc.devRef .tc main_v12_16))) (broadcastInDim S16x50x64 ![0, 1, 2] bcast_S1x1x64_S16x50x64_0_1_2 (broadcastInDim S1x1x64 ![2] bcast_S64_S1x1x64_2 (V0 (Proc.devRef .tc main_v12_17))))) (broadcastInDim S16x50x64 ![] bcast_S_S16x50x64 (constant S_ .f32 0x00000000#32))) (V0 (Proc.devRef .tc main_v12_18))) (broadcastInDim S16x50x64 ![0, 1, 2] bcast_S1x1x64_S16x50x64_0_1_2 (broadcastInDim S1x1x64 ![2] bcast_S64_S1x1x64_2 (V0 (Proc.devRef .tc main_v12_19)))) : (Proc.devRef .tc main_while0b_v153 : DevRef τ sig).ty.Contents (Elt F)) = Cert.ReferenceIdeal.Step.b156 j s := by
  unfold Cert.ReferenceIdeal.Step.b156
  rw [← al_153 h, ← al_155 h]
  try rfl
set_option maxRecDepth 8192 in
theorem al_157 (h : Holds V0 s j) : (constant S_ .f32 0x00000000#32 : (Proc.devRef .tc main_while0b_call1_cst : DevRef τ sig).ty.Contents (Elt F)) = Cert.ReferenceIdeal.Step.b157 j s := by
  unfold Cert.ReferenceIdeal.Step.b157
  rfl
set_option maxRecDepth 8192 in
theorem al_158 (h : Holds V0 s j) : (broadcastInDim S16x50x64 ![] bcast_S_S16x50x64 (constant S_ .f32 0x00000000#32) : (Proc.devRef .tc main_while0b_call1_v0 : DevRef τ sig).ty.Contents (Elt F)) = Cert.ReferenceIdeal.Step.b158 j s := by
  unfold Cert.ReferenceIdeal.Step.b158
  rw [← al_157 h]
  try rfl
set_option maxRecDepth 8192 in
theorem al_159 (h : Holds V0 s j) : (maximumf (addf (Host.dotGeneral dot_S16x50x64_S64x64_S16x50x64_2_0_01_1_n_n none (maximumf (addf (Host.dotGeneral dot_S16x50x64_S64x64_S16x50x64_2_0_01_1_n_n none (res_main_while0b_v144 V0) (V0 (Proc.devRef .tc main_v12_16))) (broadcastInDim S16x50x64 ![0, 1, 2] bcast_S1x1x64_S16x50x64_0_1_2 (broadcastInDim S1x1x64 ![2] bcast_S64_S1x1x64_2 (V0 (Proc.devRef .tc main_v12_17))))) (broadcastInDim S16x50x64 ![] bcast_S_S16x50x64 (constant S_ .f32 0x00000000#32))) (V0 (Proc.devRef .tc main_v12_18))) (broadcastInDim S16x50x64 ![0, 1, 2] bcast_S1x1x64_S16x50x64_0_1_2 (broadcastInDim S1x1x64 ![2] bcast_S64_S1x1x64_2 (V0 (Proc.devRef .tc main_v12_19))))) (broadcastInDim S16x50x64 ![] bcast_S_S16x50x64 (constant S_ .f32 0x00000000#32)) : (Proc.devRef .tc main_while0b_v154 : DevRef τ sig).ty.Contents (Elt F)) = Cert.ReferenceIdeal.Step.b159 j s := by
  unfold Cert.ReferenceIdeal.Step.b159
  rw [← al_156 h, ← al_158 h]
  try rfl
set_option maxRecDepth 8192 in
theorem al_160 (h : Holds V0 s j) : (Host.dotGeneral dot_S16x50x64_S64x4_S16x50x4_2_0_01_1_n_n none (maximumf (addf (Host.dotGeneral dot_S16x50x64_S64x64_S16x50x64_2_0_01_1_n_n none (maximumf (addf (Host.dotGeneral dot_S16x50x64_S64x64_S16x50x64_2_0_01_1_n_n none (res_main_while0b_v144 V0) (V0 (Proc.devRef .tc main_v12_16))) (broadcastInDim S16x50x64 ![0, 1, 2] bcast_S1x1x64_S16x50x64_0_1_2 (broadcastInDim S1x1x64 ![2] bcast_S64_S1x1x64_2 (V0 (Proc.devRef .tc main_v12_17))))) (broadcastInDim S16x50x64 ![] bcast_S_S16x50x64 (constant S_ .f32 0x00000000#32))) (V0 (Proc.devRef .tc main_v12_18))) (broadcastInDim S16x50x64 ![0, 1, 2] bcast_S1x1x64_S16x50x64_0_1_2 (broadcastInDim S1x1x64 ![2] bcast_S64_S1x1x64_2 (V0 (Proc.devRef .tc main_v12_19))))) (broadcastInDim S16x50x64 ![] bcast_S_S16x50x64 (constant S_ .f32 0x00000000#32))) (V0 (Proc.devRef .tc main_v12_20)) : (Proc.devRef .tc main_while0b_v155 : DevRef τ sig).ty.Contents (Elt F)) = Cert.ReferenceIdeal.Step.b160 j s := by
  unfold Cert.ReferenceIdeal.Step.b160
  rw [← al_159 h, h.f_20]
  try rfl
set_option maxRecDepth 8192 in
theorem al_161 (h : Holds V0 s j) : (broadcastInDim S1x1x4 ![2] bcast_S4_S1x1x4_2 (V0 (Proc.devRef .tc main_v12_21)) : (Proc.devRef .tc main_while0b_v156 : DevRef τ sig).ty.Contents (Elt F)) = Cert.ReferenceIdeal.Step.b161 j s := by
  unfold Cert.ReferenceIdeal.Step.b161
  rw [h.f_21]
  try rfl
set_option maxRecDepth 8192 in
theorem al_162 (h : Holds V0 s j) : (broadcastInDim S16x50x4 ![0, 1, 2] bcast_S1x1x4_S16x50x4_0_1_2 (broadcastInDim S1x1x4 ![2] bcast_S4_S1x1x4_2 (V0 (Proc.devRef .tc main_v12_21))) : (Proc.devRef .tc main_while0b_v157 : DevRef τ sig).ty.Contents (Elt F)) = Cert.ReferenceIdeal.Step.b162 j s := by
  unfold Cert.ReferenceIdeal.Step.b162
  rw [← al_161 h]
  try rfl
set_option maxRecDepth 8192 in
theorem al_163 (h : Holds V0 s j) : (addf (Host.dotGeneral dot_S16x50x64_S64x4_S16x50x4_2_0_01_1_n_n none (maximumf (addf (Host.dotGeneral dot_S16x50x64_S64x64_S16x50x64_2_0_01_1_n_n none (maximumf (addf (Host.dotGeneral dot_S16x50x64_S64x64_S16x50x64_2_0_01_1_n_n none (res_main_while0b_v144 V0) (V0 (Proc.devRef .tc main_v12_16))) (broadcastInDim S16x50x64 ![0, 1, 2] bcast_S1x1x64_S16x50x64_0_1_2 (broadcastInDim S1x1x64 ![2] bcast_S64_S1x1x64_2 (V0 (Proc.devRef .tc main_v12_17))))) (broadcastInDim S16x50x64 ![] bcast_S_S16x50x64 (constant S_ .f32 0x00000000#32))) (V0 (Proc.devRef .tc main_v12_18))) (broadcastInDim S16x50x64 ![0, 1, 2] bcast_S1x1x64_S16x50x64_0_1_2 (broadcastInDim S1x1x64 ![2] bcast_S64_S1x1x64_2 (V0 (Proc.devRef .tc main_v12_19))))) (broadcastInDim S16x50x64 ![] bcast_S_S16x50x64 (constant S_ .f32 0x00000000#32))) (V0 (Proc.devRef .tc main_v12_20))) (broadcastInDim S16x50x4 ![0, 1, 2] bcast_S1x1x4_S16x50x4_0_1_2 (broadcastInDim S1x1x4 ![2] bcast_S4_S1x1x4_2 (V0 (Proc.devRef .tc main_v12_21)))) : (Proc.devRef .tc main_while0b_v158 : DevRef τ sig).ty.Contents (Elt F)) = Cert.ReferenceIdeal.Step.b163 j s := by
  unfold Cert.ReferenceIdeal.Step.b163
  rw [← al_160 h, ← al_162 h]
  try rfl
set_option maxRecDepth 8192 in
theorem al_164 (h : Holds V0 s j) : (res_main_while0b_v159 V0 : (Proc.devRef .tc main_while0b_v159 : DevRef τ sig).ty.Contents (Elt F)) = Cert.ReferenceIdeal.Step.b164 j s := by
  unfold res_main_while0b_v159 Cert.ReferenceIdeal.Step.b164
  rw [← al_163 h, h.f_24]
  try rfl
set_option maxRecDepth 8192 in
theorem al_165 (h : Holds V0 s j) : (broadcastInDim S1x16x50x4 ![1, 2, 3] bcast_S16x50x4_S1x16x50x4_1_2_3 (res_main_while0b_v159 V0) : (Proc.devRef .tc main_while0b_call2_v0 : DevRef τ sig).ty.Contents (Elt F)) = Cert.ReferenceIdeal.Step.b165 j s := by
  unfold Cert.ReferenceIdeal.Step.b165
  rw [← al_164 h]
  try rfl
set_option maxRecDepth 8192 in
theorem al_166 (h : Holds V0 s j) : (constantI S_ 32 0#32 : (Proc.devRef .tc main_while0b_call2_c : DevRef τ sig).ty.Contents (Elt F)) = Cert.ReferenceIdeal.Step.b166 j s := by
  unfold Cert.ReferenceIdeal.Step.b166
  rfl
set_option maxRecDepth 8192 in
theorem al_167 (h : Holds V0 s j) : (constantI S_ 32 0#32 : (Proc.devRef .tc main_while0b_call2_c_0 : DevRef τ sig).ty.Contents (Elt F)) = Cert.ReferenceIdeal.Step.b167 j s := by
  unfold Cert.ReferenceIdeal.Step.b167
  rfl
set_option maxRecDepth 8192 in
theorem al_168 (h : Holds V0 s j) : (constantI S_ 32 0#32 : (Proc.devRef .tc main_while0b_call2_c_1 : DevRef τ sig).ty.Contents (Elt F)) = Cert.ReferenceIdeal.Step.b168 j s := by
  unfold Cert.ReferenceIdeal.Step.b168
  rfl
set_option maxRecDepth 8192 in
theorem al_169 (h : Holds V0 s j) : (Host.dynamicUpdateSlice (V0 (Proc.devRef .tc main_v12_25)) (broadcastInDim S1x16x50x4 ![1, 2, 3] bcast_S16x50x4_S1x16x50x4_1_2_3 (res_main_while0b_v159 V0)) (fun k => (((![V0 (Proc.devRef .tc main_v12_22), constantI S_ 32 0#32, constantI S_ 32 0#32, constantI S_ 32 0#32] : Fin 4 → (⟨S_, .i32⟩ : BufTy).Contents (Elt F))) k (Shape.Idx.first h_S_)).toInt) updateFits_S12x16x50x4_S1x16x50x4 : (Proc.devRef .tc main_while0b_v160 : DevRef τ sig).ty.Contents (Elt F)) = Cert.ReferenceIdeal.Step.b169 j s := by
  unfold Cert.ReferenceIdeal.Step.b169
  rw [← al_165 h, ← al_166 h, ← al_167 h, ← al_168 h, h.f_25, h.n_22]
  try rfl

/-! One trip changes each carried value as `step` does; the counter goes to the next number. -/

theorem step_23 (h : Holds V0 s j) : step_main_v12_23 V0 = (step j s).main_v12_23 := by
  unfold step_main_v12_23 Cert.ReferenceIdeal.Step.step
  show id (res_main_while0b_v144 V0) = _
  rw [al_145 h]
  try rfl
theorem step_24 (h : Holds V0 s j) : step_main_v12_24 V0 = (step j s).main_v12_24 := by
  unfold step_main_v12_24 Cert.ReferenceIdeal.Step.step
  show id (res_main_while0b_v159 V0) = _
  rw [al_164 h]
  try rfl
theorem step_25 (h : Holds V0 s j) : step_main_v12_25 V0 = (step j s).main_v12_25 := by
  unfold step_main_v12_25 Cert.ReferenceIdeal.Step.step
  exact al_169 h
theorem step_22 (h : Holds V0 s j) : step_main_v12_22 V0 = constantI S_ 32 (BitVec.ofNat 32 (j + 1)) := by
  unfold step_main_v12_22
  rw [h.n_22]
  funext i
  show BitVec.ofNat 32 j + 1#32 = BitVec.ofNat 32 (j + 1)
  simp only [BitVec.ofNat_add]

set_option maxRecDepth 8192 in
theorem out_main_v13_holds (h : Holds V0 s j) : out_main_v13 V0 = Cert.ReferenceIdeal.Step.R_main_v13 s := by
  unfold out_main_v13 Cert.ReferenceIdeal.Step.R_main_v13
  rw [h.f_25]
  try rfl

/-- One trip keeps the valuation holding: `step` of the state, the same set-up values, the next number. -/
theorem holds_step (h : Holds V0 s j) : Holds (STEP V0) (step j s) (j + 1) where
  f_23 := (STEP_main_v12_23 V0).trans (step_23 h)
  f_24 := (STEP_main_v12_24 V0).trans (step_24 h)
  f_25 := (STEP_main_v12_25 V0).trans (step_25 h)
  n_22 := (STEP_main_v12_22 V0).trans (step_22 h)
  k_0 := (STEP_main_v12_0 V0).trans h.k_0
  k_1 := (STEP_main_v12_1 V0).trans h.k_1
  f_2 := (STEP_main_v12_2 V0).trans h.f_2
  f_3 := (STEP_main_v12_3 V0).trans h.f_3
  f_4 := (STEP_main_v12_4 V0).trans h.f_4
  f_5 := (STEP_main_v12_5 V0).trans h.f_5
  f_6 := (STEP_main_v12_6 V0).trans h.f_6
  f_7 := (STEP_main_v12_7 V0).trans h.f_7
  f_8 := (STEP_main_v12_8 V0).trans h.f_8
  f_9 := (STEP_main_v12_9 V0).trans h.f_9
  f_10 := (STEP_main_v12_10 V0).trans h.f_10
  f_11 := (STEP_main_v12_11 V0).trans h.f_11
  f_12 := (STEP_main_v12_12 V0).trans h.f_12
  f_13 := (STEP_main_v12_13 V0).trans h.f_13
  f_14 := (STEP_main_v12_14 V0).trans h.f_14
  f_15 := (STEP_main_v12_15 V0).trans h.f_15
  f_16 := (STEP_main_v12_16 V0).trans h.f_16
  f_17 := (STEP_main_v12_17 V0).trans h.f_17
  f_18 := (STEP_main_v12_18 V0).trans h.f_18
  f_19 := (STEP_main_v12_19 V0).trans h.f_19
  f_20 := (STEP_main_v12_20 V0).trans h.f_20
  f_21 := (STEP_main_v12_21 V0).trans h.f_21

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg1)) (m ((c.tc : Thread nD τ).loc main_arg9)) (m ((c.tc : Thread nD τ).loc main_arg10)) (m ((c.tc : Thread nD τ).loc main_arg6)) (m ((c.tc : Thread nD τ).loc main_arg11)) (m ((c.tc : Thread nD τ).loc main_arg12)) (m ((c.tc : Thread nD τ).loc main_arg7)) (m ((c.tc : Thread nD τ).loc main_arg13)) (m ((c.tc : Thread nD τ).loc main_arg14)) (m ((c.tc : Thread nD τ).loc main_arg8)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg0))

variable (m : (ℓ : Loc nD τ sig) → Buf (Elt F) ℓ) (c : Dev nD)

set_option maxRecDepth 65536 in
set_option maxHeartbeats 1000000 in
/-- The operations before the loop leave the set-up values, number 0 and the first state. -/
theorem entry_holds : Holds (entryContents preI m c) (initState m c) 0 := by
  constructor <;> (simp only [entryContents, afterL_cons, afterL_nil]; after_reads_simp) <;> rfl

/-- Before trip `k` the buffers hold state `k`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- Every run of the reference ends with the result read off state 12 of the loop, the states starting at `initState` and
    going on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v13) = Cert.ReferenceIdeal.Step.R_main_v13 (it c 12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c =>
    have hk := holds_iter m c (it c) (h0 c) (hs c) 12
    ⟨(h c).1.trans (out_main_v13_holds hk), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2⟩) (Value.run m ρ)

end Cert.ReferenceIdeal.StepRun

end
-- ==== Proof.Spec.lean ====
/- One decoder step of the network, in exact arithmetic, for one element of the batch. -/
module
public import Idealize.ShloMosaic.PureOps.Ideal
@[expose] public section
noncomputable section

namespace Cert.Proof.Spec

open Idealize.ShloMosaic

/-- The weights, by entry. Message layers carry one matrix per edge type. -/
structure Weights where
  /-- The first message layer. Its first 64 rows meet the receiver, the others the sender. -/
  m1 : Fin 4 → Fin 128 → Fin 64 → EReal
  m1b : Fin 4 → Fin 64 → EReal
  m2 : Fin 4 → Fin 64 → Fin 64 → EReal
  m2b : Fin 4 → Fin 64 → EReal
  hr : Fin 64 → Fin 64 → EReal
  hi : Fin 64 → Fin 64 → EReal
  hn : Fin 64 → Fin 64 → EReal
  ir : Fin 4 → Fin 64 → EReal
  irb : Fin 64 → EReal
  ii : Fin 4 → Fin 64 → EReal
  iib : Fin 64 → EReal
  inn : Fin 4 → Fin 64 → EReal
  inb : Fin 64 → EReal
  o1 : Fin 64 → Fin 64 → EReal
  o1b : Fin 64 → EReal
  o2 : Fin 64 → Fin 64 → EReal
  o2b : Fin 64 → EReal
  o3 : Fin 64 → Fin 4 → EReal
  o3b : Fin 4 → EReal

/-- The product of a row with a matrix, at one column. -/
def lin {K N : ℕ} (x : Fin K → EReal) (w : Fin K → Fin N → EReal) (j : Fin N) : EReal := ∑ k, x k * w k j

/-- The first layer of the message of type `i` from `s` to `v`. -/
def hid (P : Weights) (h : Fin 50 → Fin 64 → EReal) (i : Fin 4) (s v : Fin 50) (q : Fin 64) : EReal :=
  Ideal.tanh ((∑ k : Fin 64, h s k * P.m1 i (Fin.natAdd 64 k) q)
    + ((∑ k : Fin 64, h v k * P.m1 i (Fin.castAdd 64 k) q) + P.m1b i q))

/-- The message of type `i` from `s` to `v`. -/
def msg (P : Weights) (h : Fin 50 → Fin 64 → EReal) (i : Fin 4) (s v : Fin 50) (k : Fin 64) : EReal :=
  Ideal.tanh ((∑ q : Fin 64, hid P h i s v q * P.m2 i q k) + P.m2b i k)

/-- The place of the edge from `s` to its `k`-th receiver in the list of edges. -/
def edge (s : Fin 50) (k : Fin 49) : Fin 2450 := ⟨s.val * 49 + k.val, by omega⟩

/-- The weight of type `i` on the edge from `s` to `v`: nothing from a node to itself. -/
def wgt (e : Fin 2450 → Fin 4 → EReal) (i : Fin 4) (s v : Fin 50) : EReal :=
  if _h : v.val < s.val then e ⟨s.val * 49 + v.val, by omega⟩ i
  else if h : s.val < v.val then e ⟨s.val * 49 + v.val - 1, by omega⟩ i
  else 0

/-- What `v` receives of type `i`, each message by `κ` times its weight. -/
def recvd (κ : EReal) (P : Weights) (e : Fin 2450 → Fin 4 → EReal) (h : Fin 50 → Fin 64 → EReal) (i : Fin 4)
    (v : Fin 50) (k : Fin 64) : EReal :=
  ∑ s : Fin 50, (κ * wgt e i s v) * msg P h i s v k

/-- What `v` receives of the three types that carry messages. -/
def agg (κ : EReal) (P : Weights) (e : Fin 2450 → Fin 4 → EReal) (h : Fin 50 → Fin 64 → EReal) (v : Fin 50)
    (k : Fin 64) : EReal :=
  recvd κ P e h 1 v k + recvd κ P e h 2 v k + recvd κ P e h 3 v k

/-- The gate that scales the new content. -/
def gateR (P : Weights) (a : Fin 64 → EReal) (x : Fin 4 → EReal) (k : Fin 64) : EReal :=
  Ideal.logistic (lin x P.ir k + P.irb k + lin a P.hr k)

/-- The gate that mixes old and new. -/
def gateI (P : Weights) (a : Fin 64 → EReal) (x : Fin 4 → EReal) (k : Fin 64) : EReal :=
  Ideal.logistic (lin x P.ii k + P.iib k + lin a P.hi k)

/-- The new content. -/
def fresh (P : Weights) (a : Fin 64 → EReal) (x : Fin 4 → EReal) (k : Fin 64) : EReal :=
  Ideal.tanh (lin x P.inn k + P.inb k + gateR P a x k * lin a P.hn k)

/-- A node's next hidden row, of what it receives `a`, its position `x` and its hidden row `h`. -/
def gru (P : Weights) (a : Fin 64 → EReal) (x : Fin 4 → EReal) (h : Fin 64 → EReal) (k : Fin 64) : EReal :=
  (1 - gateI P a x k) * fresh P a x k + gateI P a x k * h k

/-- The first output layer. -/
def out1 (P : Weights) (h : Fin 64 → EReal) (k : Fin 64) : EReal := max (lin h P.o1 k + P.o1b k) 0

/-- The second output layer. -/
def out2 (P : Weights) (h : Fin 64 → EReal) (k : Fin 64) : EReal := max (lin (out1 P h) P.o2 k + P.o2b k) 0

/-- A node's next position, of its position and its next hidden row. -/
def move (P : Weights) (x : Fin 4 → EReal) (h : Fin 64 → EReal) (d : Fin 4) : EReal :=
  x d + (lin (out2 P h) P.o3 d + P.o3b d)

/-- The hidden rows after a step. -/
def nextH (κ : EReal) (P : Weights) (e : Fin 2450 → Fin 4 → EReal) (h : Fin 50 → Fin 64 → EReal)
    (x : Fin 50 → Fin 4 → EReal) (v : Fin 50) (k : Fin 64) : EReal :=
  gru P (agg κ P e h v) (x v) (h v) k

/-- The positions after a step. -/
def nextX (κ : EReal) (P : Weights) (e : Fin 2450 → Fin 4 → EReal) (h : Fin 50 → Fin 64 → EReal)
    (x : Fin 50 → Fin 4 → EReal) (v : Fin 50) (d : Fin 4) : EReal :=
  move P (x v) (nextH κ P e h x v) d

/-- Hidden rows and positions after `n` steps from zero hidden rows and the positions `x`. -/
def run (κ : EReal) (P : Weights) (e : Fin 2450 → Fin 4 → EReal) (x : Fin 50 → Fin 4 → EReal) :
    ℕ → (Fin 50 → Fin 64 → EReal) × (Fin 50 → Fin 4 → EReal)
  | 0 => (fun _ _ => 0, x)
  | n + 1 => (nextH κ P e (run κ P e x n).1 (run κ P e x n).2, nextX κ P e (run κ P e x n).1 (run κ P e x n).2)

end Cert.Proof.Spec
end
-- ==== Proof.KerStep.lean ====
/- One step of the kernel's body on the values that it has loaded, at an index. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof.Ker

open Idealize.ShloMosaic Cert.KernelIdeal Cert.KernelIdeal.Gen Cert.Proof.Spec

/-- A block of zeros. -/
abbrev z50 : FVec Ideal S50x64 .f32 := broadcast S50x64 (Scalar.ofBits .f32 0x00000000#32 : Ideal .f32)

/-- The hidden rows, with six rows of zeros below. -/
def pad (h : FVec Ideal S50x64 .f32) : FVec Ideal S56x64 .f32 :=
  concatenate S56x64 0 [⟨S50x64, h⟩, ⟨S6x64, broadcast S6x64 (Scalar.ofBits .f32 0x00000000#32 : Ideal .f32)⟩]
    concatenates_S50x64_S6x64_S56x64_d0

/-- How the pairs of nodes enter a node's sum: the mask times the scale, times the weights spread over the pairs. -/
def spread (mask : FVec Ideal S50x2800 .f32) (wt : FVec Ideal S1x1x50x50 .f32) (rmat : FVec Ideal S50x2800 .f32) :
    FVec Ideal S50x2800 .f32 :=
  mulf (mulf (shapeCast S50x2800 mask shapeCasts_S50x2800_S50x2800)
      (broadcast S50x2800 (Named.named κ "scale" 0x3BDEE95C#32 : Ideal .f32)))
    (matmul dot_S50x50_S50x2800_S50x2800_1_0_0_1_n_n none (shapeCast S50x50 wt shapeCasts_S1x1x50x50_S50x50)
      (shapeCast S50x2800 rmat shapeCasts_S50x2800_S50x2800) (constant S50x2800 .f32 0x00000000#32))

/-- The first layer over all pairs of nodes. -/
def first (h : FVec Ideal S50x64 .f32) (wr : FVec Ideal S1x64x64 .f32) (b1 : FVec Ideal S1x1x64 .f32)
    (ws : FVec Ideal S1x64x64 .f32) : FVec Ideal S50x56x64 .f32 :=
  tanh (addf
    (broadcastTo S50x56x64 (shapeCast S50x1x64 (matmul dot_S50x64_S64x64_S50x64_1_0_0_1_n_n none h
      (shapeCast S64x64 ws shapeCasts_S1x64x64_S64x64) (constant S50x64 .f32 0x00000000#32)) shapeCasts_S50x64_S50x1x64)
      broadcasts_S50x1x64_S50x56x64)
    (broadcastTo S50x56x64 (shapeCast S1x56x64 (addf (matmul dot_S56x64_S64x64_S56x64_1_0_0_1_n_n none (pad h)
      (shapeCast S64x64 wr shapeCasts_S1x64x64_S64x64) (constant S56x64 .f32 0x00000000#32))
      (broadcastTo S56x64 (shapeCast S1x64 b1 shapeCasts_S1x1x64_S1x64) broadcasts_S1x64_S56x64)) shapeCasts_S56x64_S1x56x64)
      broadcasts_S1x56x64_S50x56x64))

/-- The messages over all pairs of nodes. -/
def second (a : FVec Ideal S50x56x64 .f32) (f2 : FVec Ideal S1x64x64 .f32) (b2 : FVec Ideal S1x1x64 .f32) :
    FVec Ideal S2800x64 .f32 :=
  tanh (addf (matmul dot_S2800x64_S64x64_S2800x64_1_0_0_1_n_n none (shapeCast S2800x64 a shapeCasts_S50x56x64_S2800x64)
      (shapeCast S64x64 f2 shapeCasts_S1x64x64_S64x64) (constant S2800x64 .f32 0x00000000#32))
    (broadcastTo S2800x64 (shapeCast S1x64 b2 shapeCasts_S1x1x64_S1x64) broadcasts_S1x64_S2800x64))

/-- What the nodes receive of one type. -/
def gather (aw : FVec Ideal S50x2800 .f32) (a2 : FVec Ideal S2800x64 .f32) : FVec Ideal S50x64 .f32 :=
  matmul dot_S50x2800_S2800x64_S50x64_1_0_0_1_n_n none aw a2 (constant S50x64 .f32 0x00000000#32)

/-- The values the body loads, and the three spreads it makes of them before the first step. -/
structure Loads where
  aw : Fin 3 → FVec Ideal S50x2800 .f32
  wr : Fin 3 → Vec Ideal S1x64x64 .f32
  ws : Fin 3 → Vec Ideal S1x64x64 .f32
  b1 : Fin 3 → Vec Ideal S1x1x64 .f32
  f2 : Fin 3 → Vec Ideal S1x64x64 .f32
  b2 : Fin 3 → Vec Ideal S1x1x64 .f32
  hr : FVec Ideal S64x64 .f32
  hi : FVec Ideal S64x64 .f32
  hn : FVec Ideal S64x64 .f32
  ir : FVec Ideal S4x64 .f32
  irb : FVec Ideal S1x64 .f32
  ii : FVec Ideal S4x64 .f32
  iib : FVec Ideal S1x64 .f32
  inn : FVec Ideal S4x64 .f32
  inb : FVec Ideal S1x64 .f32
  o1 : FVec Ideal S64x64 .f32
  o1b : FVec Ideal S1x64 .f32
  o2 : FVec Ideal S64x64 .f32
  o2b : FVec Ideal S1x64 .f32
  o3 : FVec Ideal S64x4 .f32
  o3b : FVec Ideal S1x4 .f32

variable (L : Loads)

/-- What the nodes receive of type `i + 1`. -/
def Loads.part (i : Fin 3) (h : FVec Ideal S50x64 .f32) : FVec Ideal S50x64 .f32 :=
  gather (L.aw i) (second (first h (L.wr i) (L.b1 i) (L.ws i)) (L.f2 i) (L.b2 i))

/-- What the nodes receive. -/
def Loads.total (h : FVec Ideal S50x64 .f32) : FVec Ideal S50x64 .f32 :=
  addf (addf (addf z50 (L.part 0 h)) (L.part 1 h)) (L.part 2 h)

/-- A product of hidden rows with a matrix. -/
abbrev dot (a : FVec Ideal S50x64 .f32) (w : FVec Ideal S64x64 .f32) : FVec Ideal S50x64 .f32 :=
  matmul dot_S50x64_S64x64_S50x64_1_0_0_1_n_n none a w (constant S50x64 .f32 0x00000000#32)

/-- A bias row on every node. -/
abbrev bias (b : FVec Ideal S1x64 .f32) : FVec Ideal S50x64 .f32 :=
  broadcastTo S50x64 (shapeCast S1x64 b shapeCasts_S1x64_S1x64) broadcasts_S1x64_S50x64

/-- The positions' part of a gate. -/
def inp (x : FVec Ideal S50x4 .f32) (w : FVec Ideal S4x64 .f32) (b : FVec Ideal S1x64 .f32) : FVec Ideal S50x64 .f32 :=
  addf (matmul dot_S50x4_S4x64_S50x64_1_0_0_1_n_n none x w (constant S50x64 .f32 0x00000000#32)) (bias b)

/-- The next hidden rows, of what the nodes receive `a`. -/
def Loads.hidden (a h : FVec Ideal S50x64 .f32) (x : FVec Ideal S50x4 .f32) : FVec Ideal S50x64 .f32 :=
  addf
    (mulf (subf (broadcast S50x64 (Scalar.ofBits .f32 0x3F800000#32 : Ideal .f32))
        (logistic (addf (inp x L.ii L.iib) (dot a L.hi))))
      (tanh (addf (inp x L.inn L.inb) (mulf (logistic (addf (inp x L.ir L.irb) (dot a L.hr))) (dot a L.hn)))))
    (mulf (logistic (addf (inp x L.ii L.iib) (dot a L.hi))) h)

/-- The two output layers. -/
def Loads.layers (h : FVec Ideal S50x64 .f32) : FVec Ideal S50x64 .f32 :=
  maximumf (addf (dot (maximumf (addf (dot h L.o1) (bias L.o1b)) z50) L.o2) (bias L.o2b)) z50

/-- The next positions, of the next hidden rows `h`. -/
def Loads.place (h : FVec Ideal S50x64 .f32) (x : FVec Ideal S50x4 .f32) : FVec Ideal S50x4 .f32 :=
  addf x (addf (matmul dot_S50x64_S64x4_S50x4_1_0_0_1_n_n none (L.layers h) L.o3 (constant S50x4 .f32 0x00000000#32))
    (broadcastTo S50x4 (shapeCast S1x4 L.o3b shapeCasts_S1x4_S1x4) broadcasts_S1x4_S50x4))

/-- The hidden rows after a step. -/
def Loads.stepH (h : FVec Ideal S50x64 .f32) (x : FVec Ideal S50x4 .f32) : FVec Ideal S50x64 .f32 :=
  L.hidden (L.total h) h x

/-- The positions after a step. -/
def Loads.stepX (h : FVec Ideal S50x64 .f32) (x : FVec Ideal S50x4 .f32) : FVec Ideal S50x4 .f32 :=
  L.place (L.stepH h x) x

/-- Hidden rows and positions after `n` steps from zero hidden rows. -/
def Loads.after (L : Loads) (x : FVec Ideal S50x4 .f32) : ℕ → FVec Ideal S50x64 .f32 × FVec Ideal S50x4 .f32
  | 0 => (z50, x)
  | n + 1 => (L.stepH (L.after x n).1 (L.after x n).2, L.stepX (L.after x n).1 (L.after x n).2)

/-- The loaded values are the network's weights `P` and the edges' weights `e`. -/
structure Holds (P : Weights) (e : Fin 2450 → Fin 4 → EReal) : Prop where
  aw : ∀ (i : Fin 3) (v : Fin 50) (p : Fin 2800), L.aw i (ix2 v p)
    = ((if p.val % 56 = v.val then 1 else 0) * ((1 / 147 : ℝ) : EReal)) * wgt e i.succ ⟨p.val / 56, by omega⟩ v
  wr : ∀ (i : Fin 3) (q k : Fin 64), L.wr i (ix3 0 q k) = P.m1 i.succ (Fin.castAdd 64 q) k
  ws : ∀ (i : Fin 3) (q k : Fin 64), L.ws i (ix3 0 q k) = P.m1 i.succ (Fin.natAdd 64 q) k
  b1 : ∀ (i : Fin 3) (k : Fin 64), L.b1 i (ix3 0 0 k) = P.m1b i.succ k
  f2 : ∀ (i : Fin 3) (q k : Fin 64), L.f2 i (ix3 0 q k) = P.m2 i.succ q k
  b2 : ∀ (i : Fin 3) (k : Fin 64), L.b2 i (ix3 0 0 k) = P.m2b i.succ k
  hr : ∀ q k, L.hr (ix2 q k) = P.hr q k
  hi : ∀ q k, L.hi (ix2 q k) = P.hi q k
  hn : ∀ q k, L.hn (ix2 q k) = P.hn q k
  ir : ∀ q k, L.ir (ix2 q k) = P.ir q k
  irb : ∀ k, L.irb (ix2 0 k) = P.irb k
  ii : ∀ q k, L.ii (ix2 q k) = P.ii q k
  iib : ∀ k, L.iib (ix2 0 k) = P.iib k
  inn : ∀ q k, L.inn (ix2 q k) = P.inn q k
  inb : ∀ k, L.inb (ix2 0 k) = P.inb k
  o1 : ∀ q k, L.o1 (ix2 q k) = P.o1 q k
  o1b : ∀ k, L.o1b (ix2 0 k) = P.o1b k
  o2 : ∀ q k, L.o2 (ix2 q k) = P.o2 q k
  o2b : ∀ k, L.o2b (ix2 0 k) = P.o2b k
  o3 : ∀ q k, L.o3 (ix2 q k) = P.o3 q k
  o3b : ∀ k, L.o3b (ix2 0 k) = P.o3b k

variable {L} {P : Weights} {e : Fin 2450 → Fin 4 → EReal} (hL : Holds L P e)
include hL

/-- The first layer at a pair of nodes. -/
theorem first_at (h : FVec Ideal S50x64 .f32) (i : Fin 3) (s v : Fin 50) (q : Fin 64) :
    first h (L.wr i) (L.b1 i) (L.ws i) (ix3 s ⟨v.val, by omega⟩ q) = hid P (fun v k => h (ix2 v k)) i.succ s v q := by
  have hp : ∀ k : Fin 64, pad h (ix2 ⟨v.val, by omega⟩ k) = h (ix2 v k) := by
    intro k
    pointwise [pad]
  pointwise [first]
  simp only [hL.ws, hL.wr, hL.b1, hp]
  rfl

/-- The message of a pair of nodes. -/
theorem second_at (h : FVec Ideal S50x64 .f32) (i : Fin 3) (s v : Fin 50) (k : Fin 64) :
    second (first h (L.wr i) (L.b1 i) (L.ws i)) (L.f2 i) (L.b2 i) (ix2 ⟨s.val * 56 + v.val, by omega⟩ k)
      = msg P (fun v k => h (ix2 v k)) i.succ s v k := by
  have hs : (s.val * 56 + v.val) / 56 = s.val := by omega
  have hv : (s.val * 56 + v.val) % 56 = v.val := by omega
  pointwise [second]
  simp only [hs, hv, hL.f2, hL.b2]
  simp only [first_at hL]
  rfl

/-- What a node receives of one type. -/
theorem part_at (h : FVec Ideal S50x64 .f32) (i : Fin 3) (v : Fin 50) (k : Fin 64) :
    L.part i h (ix2 v k) = recvd ((1 / 147 : ℝ) : EReal) P e (fun v k => h (ix2 v k)) i.succ v k := by
  pointwise [Loads.part, gather]
  simp only [hL.aw]
  rw [recvd, ← Equiv.sum_comp (finProdFinEquiv (m := 50) (n := 56)), Fintype.sum_prod_type]
  refine Finset.sum_congr rfl fun s _ => ?_
  have hval : ∀ r : Fin 56, (finProdFinEquiv (s, r)).val = s.val * 56 + r.val := fun r => by
    show r.val + 56 * s.val = _
    omega
  rw [Finset.sum_eq_single (⟨v.val, by omega⟩ : Fin 56)]
  · have e1 : (finProdFinEquiv (s, (⟨v.val, by omega⟩ : Fin 56))) = (⟨s.val * 56 + v.val, by omega⟩ : Fin 2800) :=
      Fin.ext (hval _)
    have hs : (⟨(s.val * 56 + v.val) / 56, by omega⟩ : Fin 50) = s := Fin.ext (by show (s.val * 56 + v.val) / 56 = s.val; omega)
    have hv : (s.val * 56 + v.val) % 56 = v.val := by omega
    rw [e1, second_at hL]
    simp only [hv, hs, if_true, one_mul]
  · intro r _ hr
    have hne : ¬ ((finProdFinEquiv (s, r)).val % 56 = v.val) := by
      rw [hval]
      intro hc
      exact hr (Fin.ext (by show r.val = v.val; omega))
    rw [if_neg hne, zero_mul, zero_mul, zero_mul]
  · intro hc; exact absurd (Finset.mem_univ _) hc

/-- What a node receives. -/
theorem total_at (h : FVec Ideal S50x64 .f32) (v : Fin 50) (k : Fin 64) :
    L.total h (ix2 v k) = agg ((1 / 147 : ℝ) : EReal) P e (fun v k => h (ix2 v k)) v k := by
  pointwise [Loads.total]
  simp only [part_at hL]
  rfl

/-- The hidden rows after a step, at an index. -/
theorem stepH_at (h : FVec Ideal S50x64 .f32) (x : FVec Ideal S50x4 .f32) (v : Fin 50) (k : Fin 64) :
    L.stepH h x (ix2 v k)
      = nextH ((1 / 147 : ℝ) : EReal) P e (fun v k => h (ix2 v k)) (fun v d => x (ix2 v d)) v k := by
  pointwise [Loads.stepH, Loads.hidden, inp]
  simp only [total_at hL, hL.hr, hL.hi, hL.hn, hL.ir, hL.irb, hL.ii, hL.iib, hL.inn, hL.inb]
  rfl

/-- The output layers at an index. -/
theorem layers_at (h : FVec Ideal S50x64 .f32) (v : Fin 50) (k : Fin 64) :
    L.layers h (ix2 v k) = out2 P (fun k => h (ix2 v k)) k := by
  pointwise [Loads.layers]
  simp only [hL.o1, hL.o1b, hL.o2, hL.o2b]
  rfl

/-- The positions after a step, at an index. -/
theorem stepX_at (h : FVec Ideal S50x64 .f32) (x : FVec Ideal S50x4 .f32) (v : Fin 50) (d : Fin 4) :
    L.stepX h x (ix2 v d)
      = nextX ((1 / 147 : ℝ) : EReal) P e (fun v k => h (ix2 v k)) (fun v d => x (ix2 v d)) v d := by
  pointwise [Loads.stepX, Loads.place]
  simp only [layers_at hL, stepH_at hL, hL.o3, hL.o3b]
  rfl

/-- Hidden rows and positions after `n` steps are the network's. -/
theorem after_at (x : FVec Ideal S50x4 .f32) : ∀ n,
    (∀ v k, (L.after x n).1 (ix2 v k) = (run ((1 / 147 : ℝ) : EReal) P e (fun v d => x (ix2 v d)) n).1 v k)
    ∧ ∀ v d, (L.after x n).2 (ix2 v d) = (run ((1 / 147 : ℝ) : EReal) P e (fun v d => x (ix2 v d)) n).2 v d
  | 0 => ⟨fun v k => by
      show z50 (ix2 v k) = 0
      pointwise [], fun _ _ => rfl⟩
  | n + 1 => by
    obtain ⟨h, p⟩ := after_at x n
    have h' : (fun v k => (L.after x n).1 (ix2 v k)) = (run ((1 / 147 : ℝ) : EReal) P e (fun v d => x (ix2 v d)) n).1 :=
      funext fun v => funext fun k => h v k
    have p' : (fun v d => (L.after x n).2 (ix2 v d)) = (run ((1 / 147 : ℝ) : EReal) P e (fun v d => x (ix2 v d)) n).2 :=
      funext fun v => funext fun d => p v d
    constructor
    · intro v k
      show L.stepH _ _ (ix2 v k) = _
      rw [stepH_at hL, h', p']
      rfl
    · intro v d
      show L.stepX _ _ (ix2 v d) = _
      rw [stepX_at hL, h', p']
      rfl

end Cert.Proof.Ker
end
-- ==== Proof.KerLoads.lean ====
/- What the kernel body loads of its windows. -/
module

public import proofs.«01_k».proof.Proof.IdealFrame
public import proofs.«01_k».proof.Proof.KerStep

@[expose] public section

set_option maxRecDepth 16384

noncomputable section

namespace Cert.Proof.Ker

open Idealize.ShloMosaic Idealize.ShloMosaic.TcCoe Cert.KernelIdeal Cert.KernelIdeal.Gen

/-- A load of a whole window. -/
abbrev whole {s : Shape} (arg : Memref sig .tc .vmem s .f32) (harg : arg.IsWhole) (off : Fin s.rank → ℕ)
    (inb : ∀ a, off a + s.size a ≤ s.size a) (x : FVec Ideal s .f32) : s.Idx → Ideal .f32 :=
  View.readAt (Elt Ideal) arg.view (Rect.unit off s.size inb).toLoadRect (harg.unread x)

/-- The matrix of type `i + 1` lies inside the three. -/
theorem inb_mat (i : Fin 3) : ∀ a, (![i.val, 0, 0] : Fin 3 → ℕ) a + S1x64x64.size a ≤ S3x64x64.size a := by
  intro a
  match a with
  | ⟨0, _⟩ => show i.val + 1 ≤ 3; omega
  | ⟨1, _⟩ => show 0 + 64 ≤ 64; omega
  | ⟨2, _⟩ => show 0 + 64 ≤ 64; omega

/-- The bias of type `i + 1` lies inside the three. -/
theorem inb_row (i : Fin 3) : ∀ a, (![i.val, 0, 0] : Fin 3 → ℕ) a + S1x1x64.size a ≤ S3x1x64.size a := by
  intro a
  match a with
  | ⟨0, _⟩ => show i.val + 1 ≤ 3; omega
  | ⟨1, _⟩ => show 0 + 1 ≤ 1; omega
  | ⟨2, _⟩ => show 0 + 64 ≤ 64; omega

/-- The edges' weights of type `i + 1` lie inside the three. -/
theorem inb_wt (i : Fin 3) : ∀ a, (![0, i.val, 0, 0] : Fin 4 → ℕ) a + S1x1x50x50.size a ≤ S1x3x50x50.size a := by
  intro a
  match a with
  | ⟨0, _⟩ => show 0 + 1 ≤ 1; omega
  | ⟨1, _⟩ => show i.val + 1 ≤ 3; omega
  | ⟨2, _⟩ => show 0 + 50 ≤ 50; omega
  | ⟨3, _⟩ => show 0 + 50 ≤ 50; omega

/-- A load of the matrix of type `i + 1`. -/
abbrev mat (arg : Memref sig .tc .vmem S3x64x64 .f32) (harg : arg.IsWhole) (x : FVec Ideal S3x64x64 .f32) (i : Fin 3) :
    FVec Ideal S1x64x64 .f32 :=
  View.readAt (Elt Ideal) arg.view (Rect.unit (s := S3x64x64) ![i.val, 0, 0] S1x64x64.size (inb_mat i)).toLoadRect (harg.unread x)

/-- A load of the bias of type `i + 1`. -/
abbrev row (arg : Memref sig .tc .vmem S3x1x64 .f32) (harg : arg.IsWhole) (x : FVec Ideal S3x1x64 .f32) (i : Fin 3) :
    FVec Ideal S1x1x64 .f32 :=
  View.readAt (Elt Ideal) arg.view (Rect.unit (s := S3x1x64) ![i.val, 0, 0] S1x1x64.size (inb_row i)).toLoadRect (harg.unread x)

/-- A load of the edges' weights of type `i + 1`. -/
abbrev wts (arg : Memref sig .tc .vmem S1x3x50x50 .f32) (harg : arg.IsWhole) (x : FVec Ideal S1x3x50x50 .f32) (i : Fin 3) :
    FVec Ideal S1x1x50x50 .f32 :=
  View.readAt (Elt Ideal) arg.view (Rect.unit (s := S1x3x50x50) ![0, i.val, 0, 0] S1x1x50x50.size (inb_wt i)).toLoadRect (harg.unread x)

variable (c : Dev nD) (arg1 : Memref sig .tc .vmem S1x50x4 .f32) (harg1 : arg1.IsWhole) (arg2 : Memref sig .tc .vmem S1x3x50x50 .f32) (harg2 : arg2.IsWhole) (arg3 : Memref sig .tc .vmem S50x2800 .f32) (harg3 : arg3.IsWhole) (arg4 : Memref sig .tc .vmem S50x2800 .f32) (harg4 : arg4.IsWhole) (arg5 : Memref sig .tc .vmem S3x64x64 .f32) (harg5 : arg5.IsWhole) (arg6 : Memref sig .tc .vmem S3x64x64 .f32) (harg6 : arg6.IsWhole) (arg7 : Memref sig .tc .vmem S3x1x64 .f32) (harg7 : arg7.IsWhole) (arg8 : Memref sig .tc .vmem S3x64x64 .f32) (harg8 : arg8.IsWhole) (arg9 : Memref sig .tc .vmem S3x1x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S4x64 .f32) (harg13 : arg13.IsWhole) (arg14 : Memref sig .tc .vmem S1x64 .f32) (harg14 : arg14.IsWhole) (arg15 : Memref sig .tc .vmem S4x64 .f32) (harg15 : arg15.IsWhole) (arg16 : Memref sig .tc .vmem S1x64 .f32) (harg16 : arg16.IsWhole) (arg17 : Memref sig .tc .vmem S4x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x4 .f32) (harg23 : arg23.IsWhole) (arg24 : Memref sig .tc .vmem S1x4 .f32) (harg24 : arg24.IsWhole) (x0 : FVec Ideal S1x50x4 .f32) (x1 : FVec Ideal S1x3x50x50 .f32) (x2 : FVec Ideal S50x2800 .f32) (x3 : FVec Ideal S50x2800 .f32) (x4 : FVec Ideal S3x64x64 .f32) (x5 : FVec Ideal S3x64x64 .f32) (x6 : FVec Ideal S3x1x64 .f32) (x7 : FVec Ideal S3x64x64 .f32) (x8 : FVec Ideal S3x1x64 .f32) (x9 : FVec Ideal S64x64 .f32) (x10 : FVec Ideal S64x64 .f32) (x11 : FVec Ideal S64x64 .f32) (x12 : FVec Ideal S4x64 .f32) (x13 : FVec Ideal S1x64 .f32) (x14 : FVec Ideal S4x64 .f32) (x15 : FVec Ideal S1x64 .f32) (x16 : FVec Ideal S4x64 .f32) (x17 : FVec Ideal S1x64 .f32) (x18 : FVec Ideal S64x64 .f32) (x19 : FVec Ideal S1x64 .f32) (x20 : FVec Ideal S64x64 .f32) (x21 : FVec Ideal S1x64 .f32) (x22 : FVec Ideal S64x4 .f32) (x23 : FVec Ideal S1x4 .f32)

/-- What the body loads of its windows. -/
def loads : Loads where
  aw i := spread (whole arg3 harg3 ![0, 0] inb_S50x2800_S50x2800_0_0 x2) (wts arg2 harg2 x1 i)
    (whole arg4 harg4 ![0, 0] inb_S50x2800_S50x2800_0_0 x3)
  wr i := mat arg5 harg5 x4 i
  ws i := mat arg6 harg6 x5 i
  b1 i := row arg7 harg7 x6 i
  f2 i := mat arg8 harg8 x7 i
  b2 i := row arg9 harg9 x8 i
  hr := whole arg10 harg10 ![0, 0] inb_S64x64_S64x64_0_0 x9
  hi := whole arg11 harg11 ![0, 0] inb_S64x64_S64x64_0_0 x10
  hn := whole arg12 harg12 ![0, 0] inb_S64x64_S64x64_0_0 x11
  ir := whole arg13 harg13 ![0, 0] inb_S4x64_S4x64_0_0 x12
  irb := whole arg14 harg14 ![0, 0] inb_S1x64_S1x64_0_0 x13
  ii := whole arg15 harg15 ![0, 0] inb_S4x64_S4x64_0_0 x14
  iib := whole arg16 harg16 ![0, 0] inb_S1x64_S1x64_0_0 x15
  inn := whole arg17 harg17 ![0, 0] inb_S4x64_S4x64_0_0 x16
  inb := whole arg18 harg18 ![0, 0] inb_S1x64_S1x64_0_0 x17
  o1 := whole arg19 harg19 ![0, 0] inb_S64x64_S64x64_0_0 x18
  o1b := whole arg20 harg20 ![0, 0] inb_S1x64_S1x64_0_0 x19
  o2 := whole arg21 harg21 ![0, 0] inb_S64x64_S64x64_0_0 x20
  o2b := whole arg22 harg22 ![0, 0] inb_S1x64_S1x64_0_0 x21
  o3 := whole arg23 harg23 ![0, 0] inb_S64x4_S64x4_0_0 x22
  o3b := whole arg24 harg24 ![0, 0] inb_S1x4_S1x4_0_0 x23

/-- The positions that the body starts from. -/
def start : FVec Ideal S50x4 .f32 :=
  shapeCast S50x4 (whole arg1 harg1 ![0, 0, 0] inb_S1x50x4_S1x50x4_0_0_0 x0) shapeCasts_S1x50x4_S50x4

end Cert.Proof.Ker
end
-- ==== Proof.KerStepsA.lean ====
/- Steps 1 to 4 of the loop, each of the one before. -/
module

public import proofs.«01_k».proof.Proof.KerLoads

@[expose] public section

set_option maxRecDepth 16384
set_option maxHeartbeats 2000000

noncomputable section

namespace Cert.Proof.Ker

open Idealize.ShloMosaic Idealize.ShloMosaic.TcCoe Cert.KernelIdeal Cert.KernelIdeal.Gen

variable (c : Dev nD) (arg1 : Memref sig .tc .vmem S1x50x4 .f32) (harg1 : arg1.IsWhole) (arg2 : Memref sig .tc .vmem S1x3x50x50 .f32) (harg2 : arg2.IsWhole) (arg3 : Memref sig .tc .vmem S50x2800 .f32) (harg3 : arg3.IsWhole) (arg4 : Memref sig .tc .vmem S50x2800 .f32) (harg4 : arg4.IsWhole) (arg5 : Memref sig .tc .vmem S3x64x64 .f32) (harg5 : arg5.IsWhole) (arg6 : Memref sig .tc .vmem S3x64x64 .f32) (harg6 : arg6.IsWhole) (arg7 : Memref sig .tc .vmem S3x1x64 .f32) (harg7 : arg7.IsWhole) (arg8 : Memref sig .tc .vmem S3x64x64 .f32) (harg8 : arg8.IsWhole) (arg9 : Memref sig .tc .vmem S3x1x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S4x64 .f32) (harg13 : arg13.IsWhole) (arg14 : Memref sig .tc .vmem S1x64 .f32) (harg14 : arg14.IsWhole) (arg15 : Memref sig .tc .vmem S4x64 .f32) (harg15 : arg15.IsWhole) (arg16 : Memref sig .tc .vmem S1x64 .f32) (harg16 : arg16.IsWhole) (arg17 : Memref sig .tc .vmem S4x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x4 .f32) (harg23 : arg23.IsWhole) (arg24 : Memref sig .tc .vmem S1x4 .f32) (harg24 : arg24.IsWhole) (x0 : FVec Ideal S1x50x4 .f32) (x1 : FVec Ideal S1x3x50x50 .f32) (x2 : FVec Ideal S50x2800 .f32) (x3 : FVec Ideal S50x2800 .f32) (x4 : FVec Ideal S3x64x64 .f32) (x5 : FVec Ideal S3x64x64 .f32) (x6 : FVec Ideal S3x1x64 .f32) (x7 : FVec Ideal S3x64x64 .f32) (x8 : FVec Ideal S3x1x64 .f32) (x9 : FVec Ideal S64x64 .f32) (x10 : FVec Ideal S64x64 .f32) (x11 : FVec Ideal S64x64 .f32) (x12 : FVec Ideal S4x64 .f32) (x13 : FVec Ideal S1x64 .f32) (x14 : FVec Ideal S4x64 .f32) (x15 : FVec Ideal S1x64 .f32) (x16 : FVec Ideal S4x64 .f32) (x17 : FVec Ideal S1x64 .f32) (x18 : FVec Ideal S64x64 .f32) (x19 : FVec Ideal S1x64 .f32) (x20 : FVec Ideal S64x64 .f32) (x21 : FVec Ideal S1x64 .f32) (x22 : FVec Ideal S64x4 .f32) (x23 : FVec Ideal S1x4 .f32)

/-- What the nodes receive in step 1. -/
theorem total_1 : (kernelRun0_A.sl.v116 (F := Ideal) c arg2 harg2 arg3 harg3 arg4 harg4 arg5 harg5 arg6 harg6 arg7 harg7 arg8 harg8 arg9 harg9 x1 x2 x3 x4 x5 x6 x7 x8)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v30 (F := Ideal)) := by
  exact rfl

/-- The hidden rows after step 1, of what the nodes receive and of those before. -/
theorem hidden_1 : (kernelRun0_A.sl.v152 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v116 (F := Ideal) c arg2 harg2 arg3 harg3 arg4 harg4 arg5 harg5 arg6 harg6 arg7 harg7 arg8 harg8 arg9 harg9 x1 x2 x3 x4 x5 x6 x7 x8) (kernelRun0_A.sl.v30 (F := Ideal)) (kernelRun0_A.sl.v32 (F := Ideal) c arg1 harg1 x0) := by
  exact rfl

/-- The hidden rows after step 1, of those before. -/
theorem rows_1 : (kernelRun0_A.sl.v152 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v30 (F := Ideal)) (kernelRun0_A.sl.v32 (F := Ideal) c arg1 harg1 x0) := by
  rw [hidden_1, total_1]; rfl

/-- The positions after step 1, of those before. -/
theorem places_1 : (kernelRun0_A.sl.v175 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v152 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) (kernelRun0_A.sl.v32 (F := Ideal) c arg1 harg1 x0) := by
  exact rfl

/-- What the nodes receive in step 2. -/
theorem total_2 : (kernelRun0_A.sl.v261 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v152 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) := by
  exact rfl

/-- The hidden rows after step 2, of what the nodes receive and of those before. -/
theorem hidden_2 : (kernelRun0_A.sl.v297 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v261 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) (kernelRun0_A.sl.v152 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) (kernelRun0_A.sl.v175 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 2, of those before. -/
theorem rows_2 : (kernelRun0_A.sl.v297 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v152 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) (kernelRun0_A.sl.v175 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_2, total_2]; rfl

/-- The positions after step 2, of those before. -/
theorem places_2 : (kernelRun0_A.sl.v320 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v297 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v175 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- What the nodes receive in step 3. -/
theorem total_3 : (kernelRun0_A.sl.v406 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v297 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 3, of what the nodes receive and of those before. -/
theorem hidden_3 : (kernelRun0_A.sl.v442 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v406 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v297 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v320 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 3, of those before. -/
theorem rows_3 : (kernelRun0_A.sl.v442 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v297 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v320 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_3, total_3]; rfl

/-- The positions after step 3, of those before. -/
theorem places_3 : (kernelRun0_A.sl.v465 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v442 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v320 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- What the nodes receive in step 4. -/
theorem total_4 : (kernelRun0_A.sl.v551 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v442 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 4, of what the nodes receive and of those before. -/
theorem hidden_4 : (kernelRun0_A.sl.v587 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v551 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v442 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v465 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 4, of those before. -/
theorem rows_4 : (kernelRun0_A.sl.v587 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v442 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v465 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_4, total_4]; rfl

/-- The positions after step 4, of those before. -/
theorem places_4 : (kernelRun0_A.sl.v610 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v587 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v465 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

end Cert.Proof.Ker
end
-- ==== Proof.KerStepsB.lean ====
/- Steps 5 to 8 of the loop, each of the one before. -/
module

public import proofs.«01_k».proof.Proof.KerLoads

@[expose] public section

set_option maxRecDepth 16384
set_option maxHeartbeats 2000000

noncomputable section

namespace Cert.Proof.Ker

open Idealize.ShloMosaic Idealize.ShloMosaic.TcCoe Cert.KernelIdeal Cert.KernelIdeal.Gen

variable (c : Dev nD) (arg1 : Memref sig .tc .vmem S1x50x4 .f32) (harg1 : arg1.IsWhole) (arg2 : Memref sig .tc .vmem S1x3x50x50 .f32) (harg2 : arg2.IsWhole) (arg3 : Memref sig .tc .vmem S50x2800 .f32) (harg3 : arg3.IsWhole) (arg4 : Memref sig .tc .vmem S50x2800 .f32) (harg4 : arg4.IsWhole) (arg5 : Memref sig .tc .vmem S3x64x64 .f32) (harg5 : arg5.IsWhole) (arg6 : Memref sig .tc .vmem S3x64x64 .f32) (harg6 : arg6.IsWhole) (arg7 : Memref sig .tc .vmem S3x1x64 .f32) (harg7 : arg7.IsWhole) (arg8 : Memref sig .tc .vmem S3x64x64 .f32) (harg8 : arg8.IsWhole) (arg9 : Memref sig .tc .vmem S3x1x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S4x64 .f32) (harg13 : arg13.IsWhole) (arg14 : Memref sig .tc .vmem S1x64 .f32) (harg14 : arg14.IsWhole) (arg15 : Memref sig .tc .vmem S4x64 .f32) (harg15 : arg15.IsWhole) (arg16 : Memref sig .tc .vmem S1x64 .f32) (harg16 : arg16.IsWhole) (arg17 : Memref sig .tc .vmem S4x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x4 .f32) (harg23 : arg23.IsWhole) (arg24 : Memref sig .tc .vmem S1x4 .f32) (harg24 : arg24.IsWhole) (x0 : FVec Ideal S1x50x4 .f32) (x1 : FVec Ideal S1x3x50x50 .f32) (x2 : FVec Ideal S50x2800 .f32) (x3 : FVec Ideal S50x2800 .f32) (x4 : FVec Ideal S3x64x64 .f32) (x5 : FVec Ideal S3x64x64 .f32) (x6 : FVec Ideal S3x1x64 .f32) (x7 : FVec Ideal S3x64x64 .f32) (x8 : FVec Ideal S3x1x64 .f32) (x9 : FVec Ideal S64x64 .f32) (x10 : FVec Ideal S64x64 .f32) (x11 : FVec Ideal S64x64 .f32) (x12 : FVec Ideal S4x64 .f32) (x13 : FVec Ideal S1x64 .f32) (x14 : FVec Ideal S4x64 .f32) (x15 : FVec Ideal S1x64 .f32) (x16 : FVec Ideal S4x64 .f32) (x17 : FVec Ideal S1x64 .f32) (x18 : FVec Ideal S64x64 .f32) (x19 : FVec Ideal S1x64 .f32) (x20 : FVec Ideal S64x64 .f32) (x21 : FVec Ideal S1x64 .f32) (x22 : FVec Ideal S64x4 .f32) (x23 : FVec Ideal S1x4 .f32)

/-- What the nodes receive in step 5. -/
theorem total_5 : (kernelRun0_A.sl.v696 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v587 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 5, of what the nodes receive and of those before. -/
theorem hidden_5 : (kernelRun0_A.sl.v732 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v696 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v587 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v610 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 5, of those before. -/
theorem rows_5 : (kernelRun0_A.sl.v732 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v587 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v610 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_5, total_5]; rfl

/-- The positions after step 5, of those before. -/
theorem places_5 : (kernelRun0_A.sl.v755 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v732 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v610 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- What the nodes receive in step 6. -/
theorem total_6 : (kernelRun0_A.sl.v841 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v732 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 6, of what the nodes receive and of those before. -/
theorem hidden_6 : (kernelRun0_A.sl.v877 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v841 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v732 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v755 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 6, of those before. -/
theorem rows_6 : (kernelRun0_A.sl.v877 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v732 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v755 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_6, total_6]; rfl

/-- The positions after step 6, of those before. -/
theorem places_6 : (kernelRun0_A.sl.v900 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v877 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v755 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- What the nodes receive in step 7. -/
theorem total_7 : (kernelRun0_A.sl.v986 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v877 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 7, of what the nodes receive and of those before. -/
theorem hidden_7 : (kernelRun0_A.sl.v1022 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v986 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v877 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v900 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 7, of those before. -/
theorem rows_7 : (kernelRun0_A.sl.v1022 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v877 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v900 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_7, total_7]; rfl

/-- The positions after step 7, of those before. -/
theorem places_7 : (kernelRun0_A.sl.v1045 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1022 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v900 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- What the nodes receive in step 8. -/
theorem total_8 : (kernelRun0_A.sl.v1131 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1022 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 8, of what the nodes receive and of those before. -/
theorem hidden_8 : (kernelRun0_A.sl.v1167 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1131 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1022 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1045 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 8, of those before. -/
theorem rows_8 : (kernelRun0_A.sl.v1167 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1022 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1045 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_8, total_8]; rfl

/-- The positions after step 8, of those before. -/
theorem places_8 : (kernelRun0_A.sl.v1190 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1167 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1045 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

end Cert.Proof.Ker
end
-- ==== Proof.KerStepsC.lean ====
/- Steps 9 to 12 of the loop, each of the one before. -/
module

public import proofs.«01_k».proof.Proof.KerLoads

@[expose] public section

set_option maxRecDepth 16384
set_option maxHeartbeats 2000000

noncomputable section

namespace Cert.Proof.Ker

open Idealize.ShloMosaic Idealize.ShloMosaic.TcCoe Cert.KernelIdeal Cert.KernelIdeal.Gen

variable (c : Dev nD) (arg1 : Memref sig .tc .vmem S1x50x4 .f32) (harg1 : arg1.IsWhole) (arg2 : Memref sig .tc .vmem S1x3x50x50 .f32) (harg2 : arg2.IsWhole) (arg3 : Memref sig .tc .vmem S50x2800 .f32) (harg3 : arg3.IsWhole) (arg4 : Memref sig .tc .vmem S50x2800 .f32) (harg4 : arg4.IsWhole) (arg5 : Memref sig .tc .vmem S3x64x64 .f32) (harg5 : arg5.IsWhole) (arg6 : Memref sig .tc .vmem S3x64x64 .f32) (harg6 : arg6.IsWhole) (arg7 : Memref sig .tc .vmem S3x1x64 .f32) (harg7 : arg7.IsWhole) (arg8 : Memref sig .tc .vmem S3x64x64 .f32) (harg8 : arg8.IsWhole) (arg9 : Memref sig .tc .vmem S3x1x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S4x64 .f32) (harg13 : arg13.IsWhole) (arg14 : Memref sig .tc .vmem S1x64 .f32) (harg14 : arg14.IsWhole) (arg15 : Memref sig .tc .vmem S4x64 .f32) (harg15 : arg15.IsWhole) (arg16 : Memref sig .tc .vmem S1x64 .f32) (harg16 : arg16.IsWhole) (arg17 : Memref sig .tc .vmem S4x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x4 .f32) (harg23 : arg23.IsWhole) (arg24 : Memref sig .tc .vmem S1x4 .f32) (harg24 : arg24.IsWhole) (x0 : FVec Ideal S1x50x4 .f32) (x1 : FVec Ideal S1x3x50x50 .f32) (x2 : FVec Ideal S50x2800 .f32) (x3 : FVec Ideal S50x2800 .f32) (x4 : FVec Ideal S3x64x64 .f32) (x5 : FVec Ideal S3x64x64 .f32) (x6 : FVec Ideal S3x1x64 .f32) (x7 : FVec Ideal S3x64x64 .f32) (x8 : FVec Ideal S3x1x64 .f32) (x9 : FVec Ideal S64x64 .f32) (x10 : FVec Ideal S64x64 .f32) (x11 : FVec Ideal S64x64 .f32) (x12 : FVec Ideal S4x64 .f32) (x13 : FVec Ideal S1x64 .f32) (x14 : FVec Ideal S4x64 .f32) (x15 : FVec Ideal S1x64 .f32) (x16 : FVec Ideal S4x64 .f32) (x17 : FVec Ideal S1x64 .f32) (x18 : FVec Ideal S64x64 .f32) (x19 : FVec Ideal S1x64 .f32) (x20 : FVec Ideal S64x64 .f32) (x21 : FVec Ideal S1x64 .f32) (x22 : FVec Ideal S64x4 .f32) (x23 : FVec Ideal S1x4 .f32)

/-- What the nodes receive in step 9. -/
theorem total_9 : (kernelRun0_A.sl.v1276 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1167 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 9, of what the nodes receive and of those before. -/
theorem hidden_9 : (kernelRun0_A.sl.v1312 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1276 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1167 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1190 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 9, of those before. -/
theorem rows_9 : (kernelRun0_A.sl.v1312 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1167 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1190 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_9, total_9]; rfl

/-- The positions after step 9, of those before. -/
theorem places_9 : (kernelRun0_A.sl.v1335 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1312 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1190 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- What the nodes receive in step 10. -/
theorem total_10 : (kernelRun0_A.sl.v1421 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1312 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 10, of what the nodes receive and of those before. -/
theorem hidden_10 : (kernelRun0_A.sl.v1457 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1421 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1312 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1335 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 10, of those before. -/
theorem rows_10 : (kernelRun0_A.sl.v1457 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1312 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1335 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_10, total_10]; rfl

/-- The positions after step 10, of those before. -/
theorem places_10 : (kernelRun0_A.sl.v1480 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1457 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1335 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- What the nodes receive in step 11. -/
theorem total_11 : (kernelRun0_A.sl.v1566 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1457 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 11, of what the nodes receive and of those before. -/
theorem hidden_11 : (kernelRun0_A.sl.v1602 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1566 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1457 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1480 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 11, of those before. -/
theorem rows_11 : (kernelRun0_A.sl.v1602 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1457 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1480 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_11, total_11]; rfl

/-- The positions after step 11, of those before. -/
theorem places_11 : (kernelRun0_A.sl.v1625 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1602 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1480 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- What the nodes receive in step 12. -/
theorem total_12 : (kernelRun0_A.sl.v1711 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.total (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1602 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 12, of what the nodes receive and of those before. -/
theorem hidden_12 : (kernelRun0_A.sl.v1747 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.hidden (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1711 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1602 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1625 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

/-- The hidden rows after step 12, of those before. -/
theorem rows_12 : (kernelRun0_A.sl.v1747 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = Loads.stepH (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1602 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1625 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  rw [hidden_12, total_12]; rfl

/-- The last row of the block. -/
theorem last_12 : (kernelRun0_A.sl.r_8 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (addf (kernelRun0_A.sl.v1625 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (addf (kernelRun0_A.sl.v1765 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v173 (F := Ideal) c arg24 harg24 x23))) shapeCasts_S50x4_S1x1x50x4 := by
  unfold kernelRun0_A.sl.r_8 k0_pay166
  rfl

/-- The positions after step 12, of those before. -/
theorem places_12 : addf (kernelRun0_A.sl.v1625 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (addf (kernelRun0_A.sl.v1765 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v173 (F := Ideal) c arg24 harg24 x23))
    = Loads.place (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (kernelRun0_A.sl.v1747 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v1625 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) := by
  exact rfl

end Cert.Proof.Ker
end
-- ==== Proof.KerRows.lean ====
/- What the body stores: row `t` of the block is the positions after `t + 1` steps on what it loads. -/
module

public import proofs.«01_k».proof.Proof.KerStepsA
public import proofs.«01_k».proof.Proof.KerStepsB
public import proofs.«01_k».proof.Proof.KerStepsC

@[expose] public section

set_option maxRecDepth 16384
set_option maxHeartbeats 2000000

noncomputable section

namespace Cert.Proof.Ker

open Idealize.ShloMosaic Idealize.ShloMosaic.TcCoe Cert.KernelIdeal Cert.KernelIdeal.Gen

variable (c : Dev nD) (arg1 : Memref sig .tc .vmem S1x50x4 .f32) (harg1 : arg1.IsWhole) (arg2 : Memref sig .tc .vmem S1x3x50x50 .f32) (harg2 : arg2.IsWhole) (arg3 : Memref sig .tc .vmem S50x2800 .f32) (harg3 : arg3.IsWhole) (arg4 : Memref sig .tc .vmem S50x2800 .f32) (harg4 : arg4.IsWhole) (arg5 : Memref sig .tc .vmem S3x64x64 .f32) (harg5 : arg5.IsWhole) (arg6 : Memref sig .tc .vmem S3x64x64 .f32) (harg6 : arg6.IsWhole) (arg7 : Memref sig .tc .vmem S3x1x64 .f32) (harg7 : arg7.IsWhole) (arg8 : Memref sig .tc .vmem S3x64x64 .f32) (harg8 : arg8.IsWhole) (arg9 : Memref sig .tc .vmem S3x1x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S4x64 .f32) (harg13 : arg13.IsWhole) (arg14 : Memref sig .tc .vmem S1x64 .f32) (harg14 : arg14.IsWhole) (arg15 : Memref sig .tc .vmem S4x64 .f32) (harg15 : arg15.IsWhole) (arg16 : Memref sig .tc .vmem S1x64 .f32) (harg16 : arg16.IsWhole) (arg17 : Memref sig .tc .vmem S4x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x4 .f32) (harg23 : arg23.IsWhole) (arg24 : Memref sig .tc .vmem S1x4 .f32) (harg24 : arg24.IsWhole) (x0 : FVec Ideal S1x50x4 .f32) (x1 : FVec Ideal S1x3x50x50 .f32) (x2 : FVec Ideal S50x2800 .f32) (x3 : FVec Ideal S50x2800 .f32) (x4 : FVec Ideal S3x64x64 .f32) (x5 : FVec Ideal S3x64x64 .f32) (x6 : FVec Ideal S3x1x64 .f32) (x7 : FVec Ideal S3x64x64 .f32) (x8 : FVec Ideal S3x1x64 .f32) (x9 : FVec Ideal S64x64 .f32) (x10 : FVec Ideal S64x64 .f32) (x11 : FVec Ideal S64x64 .f32) (x12 : FVec Ideal S4x64 .f32) (x13 : FVec Ideal S1x64 .f32) (x14 : FVec Ideal S4x64 .f32) (x15 : FVec Ideal S1x64 .f32) (x16 : FVec Ideal S4x64 .f32) (x17 : FVec Ideal S1x64 .f32) (x18 : FVec Ideal S64x64 .f32) (x19 : FVec Ideal S1x64 .f32) (x20 : FVec Ideal S64x64 .f32) (x21 : FVec Ideal S1x64 .f32) (x22 : FVec Ideal S64x4 .f32) (x23 : FVec Ideal S1x4 .f32)

/-- The loop starts at zero hidden rows and the first positions. -/
theorem at_0 : (kernelRun0_A.sl.v30 (F := Ideal)) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 0).1
    ∧ (kernelRun0_A.sl.v32 (F := Ideal) c arg1 harg1 x0) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 0).2 := by
  exact ⟨rfl, rfl⟩

/-- Hidden rows and positions after step 1. -/
theorem at_1 : (kernelRun0_A.sl.v152 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 1).1
    ∧ (kernelRun0_A.sl.v175 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 1).2 := by
  obtain ⟨h, p⟩ := at_0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v152 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 1).1 := by
    rw [rows_1, h, p]; rfl
  exact ⟨e, by rw [places_1, e, p]; rfl⟩

/-- Row 0 of the block. -/
theorem stored_1 : (kernelRun0_A.sl.v178 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 1).2 shapeCasts_S50x4_S1x1x50x4 := by
  rw [← (at_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 2. -/
theorem at_2 : (kernelRun0_A.sl.v297 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 2).1
    ∧ (kernelRun0_A.sl.v320 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 2).2 := by
  obtain ⟨h, p⟩ := at_1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v297 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 2).1 := by
    rw [rows_2, h, p]; rfl
  exact ⟨e, by rw [places_2, e, p]; rfl⟩

/-- Row 1 of the block. -/
theorem stored_2 : (kernelRun0_A.sl.v323 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 2).2 shapeCasts_S50x4_S1x1x50x4 := by
  rw [← (at_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 3. -/
theorem at_3 : (kernelRun0_A.sl.v442 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 3).1
    ∧ (kernelRun0_A.sl.v465 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 3).2 := by
  obtain ⟨h, p⟩ := at_2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v442 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 3).1 := by
    rw [rows_3, h, p]; rfl
  exact ⟨e, by rw [places_3, e, p]; rfl⟩

/-- Row 2 of the block. -/
theorem stored_3 : (kernelRun0_A.sl.v468 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 3).2 shapeCasts_S50x4_S1x1x50x4 := by
  rw [← (at_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 4. -/
theorem at_4 : (kernelRun0_A.sl.v587 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 4).1
    ∧ (kernelRun0_A.sl.v610 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 4).2 := by
  obtain ⟨h, p⟩ := at_3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v587 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 4).1 := by
    rw [rows_4, h, p]; rfl
  exact ⟨e, by rw [places_4, e, p]; rfl⟩

/-- Row 3 of the block. -/
theorem stored_4 : (kernelRun0_A.sl.v613 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 4).2 shapeCasts_S50x4_S1x1x50x4 := by
  rw [← (at_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 5. -/
theorem at_5 : (kernelRun0_A.sl.v732 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 5).1
    ∧ (kernelRun0_A.sl.v755 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 5).2 := by
  obtain ⟨h, p⟩ := at_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v732 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 5).1 := by
    rw [rows_5, h, p]; rfl
  exact ⟨e, by rw [places_5, e, p]; rfl⟩

/-- Row 4 of the block. -/
theorem stored_5 : (kernelRun0_A.sl.v758 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 5).2 shapeCasts_S50x4_S1x1x50x4 := by
  rw [← (at_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 6. -/
theorem at_6 : (kernelRun0_A.sl.v877 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 6).1
    ∧ (kernelRun0_A.sl.v900 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 6).2 := by
  obtain ⟨h, p⟩ := at_5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v877 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 6).1 := by
    rw [rows_6, h, p]; rfl
  exact ⟨e, by rw [places_6, e, p]; rfl⟩

/-- Row 5 of the block. -/
theorem stored_6 : (kernelRun0_A.sl.v903 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 6).2 shapeCasts_S50x4_S1x1x50x4 := by
  rw [← (at_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 7. -/
theorem at_7 : (kernelRun0_A.sl.v1022 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 7).1
    ∧ (kernelRun0_A.sl.v1045 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 7).2 := by
  obtain ⟨h, p⟩ := at_6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v1022 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 7).1 := by
    rw [rows_7, h, p]; rfl
  exact ⟨e, by rw [places_7, e, p]; rfl⟩

/-- Row 6 of the block. -/
theorem stored_7 : (kernelRun0_A.sl.v1048 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 7).2 shapeCasts_S50x4_S1x1x50x4 := by
  rw [← (at_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 8. -/
theorem at_8 : (kernelRun0_A.sl.v1167 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 8).1
    ∧ (kernelRun0_A.sl.v1190 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 8).2 := by
  obtain ⟨h, p⟩ := at_7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v1167 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 8).1 := by
    rw [rows_8, h, p]; rfl
  exact ⟨e, by rw [places_8, e, p]; rfl⟩

/-- Row 7 of the block. -/
theorem stored_8 : (kernelRun0_A.sl.v1193 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 8).2 shapeCasts_S50x4_S1x1x50x4 := by
  rw [← (at_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 9. -/
theorem at_9 : (kernelRun0_A.sl.v1312 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 9).1
    ∧ (kernelRun0_A.sl.v1335 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 9).2 := by
  obtain ⟨h, p⟩ := at_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v1312 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 9).1 := by
    rw [rows_9, h, p]; rfl
  exact ⟨e, by rw [places_9, e, p]; rfl⟩

/-- Row 8 of the block. -/
theorem stored_9 : (kernelRun0_A.sl.v1338 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 9).2 shapeCasts_S50x4_S1x1x50x4 := by
  rw [← (at_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 10. -/
theorem at_10 : (kernelRun0_A.sl.v1457 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 10).1
    ∧ (kernelRun0_A.sl.v1480 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 10).2 := by
  obtain ⟨h, p⟩ := at_9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v1457 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 10).1 := by
    rw [rows_10, h, p]; rfl
  exact ⟨e, by rw [places_10, e, p]; rfl⟩

/-- Row 9 of the block. -/
theorem stored_10 : (kernelRun0_A.sl.v1483 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 10).2 shapeCasts_S50x4_S1x1x50x4 := by
  rw [← (at_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 11. -/
theorem at_11 : (kernelRun0_A.sl.v1602 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 11).1
    ∧ (kernelRun0_A.sl.v1625 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 11).2 := by
  obtain ⟨h, p⟩ := at_10 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v1602 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 11).1 := by
    rw [rows_11, h, p]; rfl
  exact ⟨e, by rw [places_11, e, p]; rfl⟩

/-- Row 10 of the block. -/
theorem stored_11 : (kernelRun0_A.sl.v1628 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 11).2 shapeCasts_S50x4_S1x1x50x4 := by
  rw [← (at_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; rfl

/-- Hidden rows and positions after step 12. -/
theorem at_12 : (kernelRun0_A.sl.v1747 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 12).1
    ∧ (addf (kernelRun0_A.sl.v1625 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (addf (kernelRun0_A.sl.v1765 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) (kernelRun0_A.sl.v173 (F := Ideal) c arg24 harg24 x23))) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 12).2 := by
  obtain ⟨h, p⟩ := at_11 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23
  have e : (kernelRun0_A.sl.v1747 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23) = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 12).1 := by
    rw [rows_12, h, p]; rfl
  exact ⟨e, by rw [places_12, e, p]; rfl⟩

/-- Row 11 of the block. -/
theorem stored_12 : (kernelRun0_A.sl.r_8 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23)
    = shapeCast S1x1x50x4 (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) 12).2 shapeCasts_S50x4_S1x1x50x4 := by
  rw [← (at_12 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23).2]; exact last_12 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22 x23

end Cert.Proof.Ker
end
-- ==== Proof.KerBlock.lean ====
/- What the body leaves of its result block: row `t` is the positions after `t + 1` steps. -/
module

public import proofs.«01_k».proof.Proof.KerRows
public import Idealize.ShloMosaic.Lib.Pointwise
public import Idealize.ShloMosaic.Lib.Pipeline.ValueKit

@[expose] public section

set_option maxRecDepth 16384
set_option maxHeartbeats 2000000

noncomputable section

namespace Cert.Proof.Ker

open Idealize.ShloMosaic Idealize.ShloMosaic.TcCoe Cert.KernelIdeal Cert.KernelIdeal.Gen

/-- A store of `f k` into row `k` puts `f t` where it meets row `t`. -/
theorem tile_at (f : ℕ → FVec Ideal S50x4 .f32) (k : ℕ) (t : Fin 12) (v : Fin 50) (d : Fin 4) :
    View.TileAt (Val := Elt Ideal) (S := S1x12x50x4) (e := .f32) (ix4 0 t v d) ![0, k, 0, 0] S1x1x50x4.size
      (shapeCast S1x1x50x4 (f k) shapeCasts_S50x4_S1x1x50x4) (f t.val (ix2 v d)) := by
  intro x hx
  have h1 : t.val = k + (x 1).val := hx 1
  have h2 : v.val = 0 + (x 2).val := hx 2
  have h3 : d.val = 0 + (x 3).val := hx 3
  have b0 : (x 0).val < 1 := (x 0).isLt
  have b1 : (x 1).val < 1 := (x 1).isLt
  have e : x = (ix4 0 0 v d : S1x1x50x4.Idx) := by
    funext a; apply Fin.ext
    match a with
    | ⟨0, _⟩ => show (x 0).val = 0; omega
    | ⟨1, _⟩ => show (x 1).val = 0; omega
    | ⟨2, _⟩ => show (x 2).val = v.val; omega
    | ⟨3, _⟩ => show (x 3).val = d.val; omega
  have hk : k = t.val := by omega
  rw [e, hk]
  pointwise

/-- A list of pieces that covers the block, read back where every piece agrees. -/
theorem read_at (L : List (View.Piece (Elt Ideal) S1x12x50x4 .f32)) (y : S1x12x50x4.Idx) (v : EReal)
    (hc : ∀ y, ∃ p ∈ L, y ∈ p.1.set) (h : View.AllAt L y v) :
    VO0_24.read (Elt Ideal) (VO0_24.writes (Elt Ideal) VO0_24.junk L) y = v := by
  rw [View.read_writes_eq_canon _ _ _ hc]
  exact View.canon_eq_of_allAt _ _ _ (hc y) h

variable (c : Dev nD) (i : grid0.Coords) (arg1 : Memref sig .tc .vmem S1x50x4 .f32) (harg1 : arg1.IsWhole) (arg2 : Memref sig .tc .vmem S1x3x50x50 .f32) (harg2 : arg2.IsWhole) (arg3 : Memref sig .tc .vmem S50x2800 .f32) (harg3 : arg3.IsWhole) (arg4 : Memref sig .tc .vmem S50x2800 .f32) (harg4 : arg4.IsWhole) (arg5 : Memref sig .tc .vmem S3x64x64 .f32) (harg5 : arg5.IsWhole) (arg6 : Memref sig .tc .vmem S3x64x64 .f32) (harg6 : arg6.IsWhole) (arg7 : Memref sig .tc .vmem S3x1x64 .f32) (harg7 : arg7.IsWhole) (arg8 : Memref sig .tc .vmem S3x64x64 .f32) (harg8 : arg8.IsWhole) (arg9 : Memref sig .tc .vmem S3x1x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S4x64 .f32) (harg13 : arg13.IsWhole) (arg14 : Memref sig .tc .vmem S1x64 .f32) (harg14 : arg14.IsWhole) (arg15 : Memref sig .tc .vmem S4x64 .f32) (harg15 : arg15.IsWhole) (arg16 : Memref sig .tc .vmem S1x64 .f32) (harg16 : arg16.IsWhole) (arg17 : Memref sig .tc .vmem S4x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x4 .f32) (harg23 : arg23.IsWhole) (arg24 : Memref sig .tc .vmem S1x4 .f32) (harg24 : arg24.IsWhole) (arg25 : Memref sig .tc .vmem S1x12x50x4 .f32) (harg25 : arg25.IsWhole) (arg26 : Memref sig .tc .vmem S8x128 .f32) (harg26 : arg26.IsWhole) (x0 : FVec Ideal S1x50x4 .f32) (x1 : FVec Ideal S1x3x50x50 .f32) (x2 : FVec Ideal S50x2800 .f32) (x3 : FVec Ideal S50x2800 .f32) (x4 : FVec Ideal S3x64x64 .f32) (x5 : FVec Ideal S3x64x64 .f32) (x6 : FVec Ideal S3x1x64 .f32) (x7 : FVec Ideal S3x64x64 .f32) (x8 : FVec Ideal S3x1x64 .f32) (x9 : FVec Ideal S64x64 .f32) (x10 : FVec Ideal S64x64 .f32) (x11 : FVec Ideal S64x64 .f32) (x12 : FVec Ideal S4x64 .f32) (x13 : FVec Ideal S1x64 .f32) (x14 : FVec Ideal S4x64 .f32) (x15 : FVec Ideal S1x64 .f32) (x16 : FVec Ideal S4x64 .f32) (x17 : FVec Ideal S1x64 .f32) (x18 : FVec Ideal S64x64 .f32) (x19 : FVec Ideal S1x64 .f32) (x20 : FVec Ideal S64x64 .f32) (x21 : FVec Ideal S1x64 .f32) (x22 : FVec Ideal S64x4 .f32) (x23 : FVec Ideal S1x4 .f32)

/-- Every piece of the run that meets row `t` holds the positions after `t + 1` steps there. -/
theorem pieces_at (t : Fin 12) (v : Fin 50) (d : Fin 4) :
    View.AllAt (Val := Elt Ideal) (S := S1x12x50x4) (e := .f32) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23).1 (ix4 0 t v d)
      ((Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (t.val + 1)).2 (ix2 v d)) := by
  unfold kernelRun0_A
  dsimp only
  refine View.allAt_cons_unit (S := S1x12x50x4) ![0, 11, 0, 0] ![1, 1, 50, 4] _ _ _ ?_ ?_
  · rw [stored_12]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 11 t v d
  refine View.allAt_cons_unit (S := S1x12x50x4) ![0, 10, 0, 0] ![1, 1, 50, 4] _ _ _ ?_ ?_
  · rw [stored_11]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 10 t v d
  refine View.allAt_cons_unit (S := S1x12x50x4) ![0, 9, 0, 0] ![1, 1, 50, 4] _ _ _ ?_ ?_
  · rw [stored_10]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 9 t v d
  refine View.allAt_cons_unit (S := S1x12x50x4) ![0, 8, 0, 0] ![1, 1, 50, 4] _ _ _ ?_ ?_
  · rw [stored_9]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 8 t v d
  refine View.allAt_cons_unit (S := S1x12x50x4) ![0, 7, 0, 0] ![1, 1, 50, 4] _ _ _ ?_ ?_
  · rw [stored_8]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 7 t v d
  refine View.allAt_cons_unit (S := S1x12x50x4) ![0, 6, 0, 0] ![1, 1, 50, 4] _ _ _ ?_ ?_
  · rw [stored_7]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 6 t v d
  refine View.allAt_cons_unit (S := S1x12x50x4) ![0, 5, 0, 0] ![1, 1, 50, 4] _ _ _ ?_ ?_
  · rw [stored_6]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 5 t v d
  refine View.allAt_cons_unit (S := S1x12x50x4) ![0, 4, 0, 0] ![1, 1, 50, 4] _ _ _ ?_ ?_
  · rw [stored_5]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 4 t v d
  refine View.allAt_cons_unit (S := S1x12x50x4) ![0, 3, 0, 0] ![1, 1, 50, 4] _ _ _ ?_ ?_
  · rw [stored_4]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 3 t v d
  refine View.allAt_cons_unit (S := S1x12x50x4) ![0, 2, 0, 0] ![1, 1, 50, 4] _ _ _ ?_ ?_
  · rw [stored_3]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 2 t v d
  refine View.allAt_cons_unit (S := S1x12x50x4) ![0, 1, 0, 0] ![1, 1, 50, 4] _ _ _ ?_ ?_
  · rw [stored_2]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 1 t v d
  refine View.allAt_cons_unit (S := S1x12x50x4) ![0, 0, 0, 0] ![1, 1, 50, 4] _ _ _ ?_ ?_
  · rw [stored_1]
    exact tile_at (fun n => (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (n + 1)).2) 0 t v d
  exact View.allAt_nil _ _

/-- Row `t` of what the body leaves. -/
theorem block_at (t : Fin 12) (v : Fin 50) (d : Fin 4) :
    out0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 (ix4 0 t v d)
      = (Loads.after (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) (start arg1 harg1 x0) (t.val + 1)).2 (ix2 v d) :=
  read_at _ _ _ (cover0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23) (pieces_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 t v d)

end Cert.Proof.Ker
end
-- ==== Proof.KerHolds.lean ====
/- What the kernel body loads, at an index: the network's weights and the edges' weights. -/
module

public import proofs.«01_k».proof.Proof.KerLoads
public import Idealize.ShloMosaic.Lib.Pipeline.ValueKit

@[expose] public section

set_option maxRecDepth 16384
set_option maxHeartbeats 2000000

noncomputable section

namespace Cert.Proof.Ker

open Idealize.ShloMosaic Idealize.ShloMosaic.TcCoe Cert.KernelIdeal Cert.KernelIdeal.Gen Cert.Proof.Spec

/-- A load of a whole window gives what the window holds. -/
theorem whole_eq {s : Shape} (arg : Memref sig .tc .vmem s .f32) (harg : arg.IsWhole) (off : Fin s.rank → ℕ)
    (inb : ∀ a, off a + s.size a ≤ s.size a) (x : FVec Ideal s .f32) : whole arg harg off inb x = x := by
  have hz : off = fun _ => 0 := by
    funext a
    have := inb a
    omega
  subst hz
  simp only [whole, View.readAt_eq_ld, harg.read_unread, View.ld_unit_zero (S := s) rfl]

/-- A load of the matrix of type `i + 1`, at an index. -/
theorem mat_at (arg : Memref sig .tc .vmem S3x64x64 .f32) (harg : arg.IsWhole) (x : FVec Ideal S3x64x64 .f32) (i : Fin 3)
    (q k : Fin 64) : mat arg harg x i (ix3 0 q k) = x (ix3 i q k) := by
  simp only [mat, View.readAt_eq_ld, harg.read_unread]
  show x _ = x _
  congr 1
  funext a; apply Fin.ext
  match a with
  | ⟨0, _⟩ => show i.val + 1 * 0 = i.val; omega
  | ⟨1, _⟩ => show 0 + 1 * q.val = q.val; omega
  | ⟨2, _⟩ => show 0 + 1 * k.val = k.val; omega

/-- A load of the bias of type `i + 1`, at an index. -/
theorem row_at (arg : Memref sig .tc .vmem S3x1x64 .f32) (harg : arg.IsWhole) (x : FVec Ideal S3x1x64 .f32) (i : Fin 3)
    (k : Fin 64) : row arg harg x i (ix3 0 0 k) = x (ix3 i 0 k) := by
  simp only [row, View.readAt_eq_ld, harg.read_unread]
  show x _ = x _
  congr 1
  funext a; apply Fin.ext
  match a with
  | ⟨0, _⟩ => show i.val + 1 * 0 = i.val; omega
  | ⟨1, _⟩ => show 0 + 1 * 0 = 0; omega
  | ⟨2, _⟩ => show 0 + 1 * k.val = k.val; omega

/-- A load of the edges' weights of type `i + 1`, at an index. -/
theorem wts_at (arg : Memref sig .tc .vmem S1x3x50x50 .f32) (harg : arg.IsWhole) (x : FVec Ideal S1x3x50x50 .f32) (i : Fin 3)
    (v s : Fin 50) : wts arg harg x i (ix4 0 0 v s) = x (ix4 0 i v s) := by
  simp only [wts, View.readAt_eq_ld, harg.read_unread]
  show x _ = x _
  congr 1
  funext a; apply Fin.ext
  match a with
  | ⟨0, _⟩ => show 0 + 1 * 0 = 0; omega
  | ⟨1, _⟩ => show i.val + 1 * 0 = i.val; omega
  | ⟨2, _⟩ => show 0 + 1 * v.val = v.val; omega
  | ⟨3, _⟩ => show 0 + 1 * s.val = s.val; omega

/-- The named scale is a 147th. -/
theorem scale_eq : (Named.named κ "scale" 0x3BDEE95C#32 : Ideal .f32) = ((1 / 147 : ℝ) : EReal) :=
  IdealRules.named_const.ideal_named_scalar _ _ _ _ rfl

/-- The spread at a node and a pair of nodes. -/
theorem spread_at (mask : FVec Ideal S50x2800 .f32) (wt : FVec Ideal S1x1x50x50 .f32) (rmat : FVec Ideal S50x2800 .f32)
    (hr : ∀ (u : Fin 50) (p : Fin 2800), rmat (ix2 u p) = if p.val / 56 = u.val then (1 : EReal) else 0) (v : Fin 50) (p : Fin 2800) :
    spread mask wt rmat (ix2 v p) = mask (ix2 v p) * ((1 / 147 : ℝ) : EReal) * wt (ix4 0 0 v ⟨p.val / 56, by omega⟩) := by
  pointwise [spread]
  rw [scale_eq]
  congr 1
  simp only [hr]
  rw [Finset.sum_eq_single (⟨p.val / 56, by omega⟩ : Fin 50)]
  · rw [if_pos rfl, mul_one]
  · intro u _ hu
    rw [if_neg (fun h => hu (Fin.ext h.symm)), mul_zero]
  · intro h; exact absurd (Finset.mem_univ _) h

variable (arg2 : Memref sig .tc .vmem S1x3x50x50 .f32) (harg2 : arg2.IsWhole) (arg3 : Memref sig .tc .vmem S50x2800 .f32) (harg3 : arg3.IsWhole) (arg4 : Memref sig .tc .vmem S50x2800 .f32) (harg4 : arg4.IsWhole) (arg5 : Memref sig .tc .vmem S3x64x64 .f32) (harg5 : arg5.IsWhole) (arg6 : Memref sig .tc .vmem S3x64x64 .f32) (harg6 : arg6.IsWhole) (arg7 : Memref sig .tc .vmem S3x1x64 .f32) (harg7 : arg7.IsWhole) (arg8 : Memref sig .tc .vmem S3x64x64 .f32) (harg8 : arg8.IsWhole) (arg9 : Memref sig .tc .vmem S3x1x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S4x64 .f32) (harg13 : arg13.IsWhole) (arg14 : Memref sig .tc .vmem S1x64 .f32) (harg14 : arg14.IsWhole) (arg15 : Memref sig .tc .vmem S4x64 .f32) (harg15 : arg15.IsWhole) (arg16 : Memref sig .tc .vmem S1x64 .f32) (harg16 : arg16.IsWhole) (arg17 : Memref sig .tc .vmem S4x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x4 .f32) (harg23 : arg23.IsWhole) (arg24 : Memref sig .tc .vmem S1x4 .f32) (harg24 : arg24.IsWhole) (x1 : FVec Ideal S1x3x50x50 .f32) (x2 : FVec Ideal S50x2800 .f32) (x3 : FVec Ideal S50x2800 .f32) (x4 : FVec Ideal S3x64x64 .f32) (x5 : FVec Ideal S3x64x64 .f32) (x6 : FVec Ideal S3x1x64 .f32) (x7 : FVec Ideal S3x64x64 .f32) (x8 : FVec Ideal S3x1x64 .f32) (x9 : FVec Ideal S64x64 .f32) (x10 : FVec Ideal S64x64 .f32) (x11 : FVec Ideal S64x64 .f32) (x12 : FVec Ideal S4x64 .f32) (x13 : FVec Ideal S1x64 .f32) (x14 : FVec Ideal S4x64 .f32) (x15 : FVec Ideal S1x64 .f32) (x16 : FVec Ideal S4x64 .f32) (x17 : FVec Ideal S1x64 .f32) (x18 : FVec Ideal S64x64 .f32) (x19 : FVec Ideal S1x64 .f32) (x20 : FVec Ideal S64x64 .f32) (x21 : FVec Ideal S1x64 .f32) (x22 : FVec Ideal S64x4 .f32) (x23 : FVec Ideal S1x4 .f32)

/-- The loaded values are the network's weights `P` and the edges' weights `e`, when the windows hold them. -/
theorem holds (P : Weights) (e : Fin 2450 → Fin 4 → EReal)
    (h1 : ∀ (i : Fin 3) (v s : Fin 50), x1 (ix4 0 i v s) = wgt e i.succ s v)
    (h2 : ∀ (v : Fin 50) (p : Fin 2800), x2 (ix2 v p) = if p.val % 56 = v.val then (1 : EReal) else 0)
    (h3 : ∀ (u : Fin 50) (p : Fin 2800), x3 (ix2 u p) = if p.val / 56 = u.val then (1 : EReal) else 0)
    (h4 : ∀ (i : Fin 3) (q k : Fin 64), x4 (ix3 i q k) = P.m1 i.succ (Fin.castAdd 64 q) k)
    (h5 : ∀ (i : Fin 3) (q k : Fin 64), x5 (ix3 i q k) = P.m1 i.succ (Fin.natAdd 64 q) k)
    (h6 : ∀ (i : Fin 3) (k : Fin 64), x6 (ix3 i 0 k) = P.m1b i.succ k)
    (h7 : ∀ (i : Fin 3) (q k : Fin 64), x7 (ix3 i q k) = P.m2 i.succ q k)
    (h8 : ∀ (i : Fin 3) (k : Fin 64), x8 (ix3 i 0 k) = P.m2b i.succ k)
    (h9 : ∀ q k, x9 (ix2 q k) = P.hr q k) (h10 : ∀ q k, x10 (ix2 q k) = P.hi q k) (h11 : ∀ q k, x11 (ix2 q k) = P.hn q k)
    (h12 : ∀ q k, x12 (ix2 q k) = P.ir q k) (h13 : ∀ k, x13 (ix2 0 k) = P.irb k)
    (h14 : ∀ q k, x14 (ix2 q k) = P.ii q k) (h15 : ∀ k, x15 (ix2 0 k) = P.iib k)
    (h16 : ∀ q k, x16 (ix2 q k) = P.inn q k) (h17 : ∀ k, x17 (ix2 0 k) = P.inb k)
    (h18 : ∀ q k, x18 (ix2 q k) = P.o1 q k) (h19 : ∀ k, x19 (ix2 0 k) = P.o1b k)
    (h20 : ∀ q k, x20 (ix2 q k) = P.o2 q k) (h21 : ∀ k, x21 (ix2 0 k) = P.o2b k)
    (h22 : ∀ q k, x22 (ix2 q k) = P.o3 q k) (h23 : ∀ k, x23 (ix2 0 k) = P.o3b k) :
    Holds (loads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 x18 x19 x20 x21 x22 x23) P e where
  aw i v p := by
    show spread (whole arg3 harg3 ![0, 0] inb_S50x2800_S50x2800_0_0 x2) (wts arg2 harg2 x1 i)
      (whole arg4 harg4 ![0, 0] inb_S50x2800_S50x2800_0_0 x3) (ix2 v p) = _
    rw [whole_eq, whole_eq, spread_at _ _ _ h3, wts_at, h1, h2]
  wr i q k := (mat_at ..).trans (h4 i q k)
  ws i q k := (mat_at ..).trans (h5 i q k)
  b1 i k := (row_at ..).trans (h6 i k)
  f2 i q k := (mat_at ..).trans (h7 i q k)
  b2 i k := (row_at ..).trans (h8 i k)
  hr q k := (congrFun (whole_eq ..) _).trans (h9 q k)
  hi q k := (congrFun (whole_eq ..) _).trans (h10 q k)
  hn q k := (congrFun (whole_eq ..) _).trans (h11 q k)
  ir q k := (congrFun (whole_eq ..) _).trans (h12 q k)
  irb k := (congrFun (whole_eq ..) _).trans (h13 k)
  ii q k := (congrFun (whole_eq ..) _).trans (h14 q k)
  iib k := (congrFun (whole_eq ..) _).trans (h15 k)
  inn q k := (congrFun (whole_eq ..) _).trans (h16 q k)
  inb k := (congrFun (whole_eq ..) _).trans (h17 k)
  o1 q k := (congrFun (whole_eq ..) _).trans (h18 q k)
  o1b k := (congrFun (whole_eq ..) _).trans (h19 k)
  o2 q k := (congrFun (whole_eq ..) _).trans (h20 q k)
  o2b k := (congrFun (whole_eq ..) _).trans (h21 k)
  o3 q k := (congrFun (whole_eq ..) _).trans (h22 q k)
  o3b k := (congrFun (whole_eq ..) _).trans (h23 k)

end Cert.Proof.Ker
end
-- ==== Proof.KerHost.lean ====
/- What the kernel's windows are filled from: the arrays made of the arguments before the kernel starts, at an index. -/
module

public import proofs.«01_k».proof.Proof.IdealFrame
public import proofs.«01_k».proof.Proof.Spec
public import Idealize.ShloMosaic.Lib.StableHlo.RunRead
public import Idealize.ShloMosaic.Lib.Pointwise
public import Idealize.ShloMosaic.Lib.WordCmp

@[expose] public section

set_option maxRecDepth 16384

noncomputable section

namespace Cert.Proof.Host

open Idealize.ShloMosaic Idealize.ShloMosaic.TcCoe Cert.KernelIdeal Cert.KernelIdeal.Gen Cert.Proof.Spec

variable (m : (ℓ : Loc nD τ sig) → Buf (Elt Ideal) ℓ) (c : Dev nD)

/-- The first positions are the inputs at time 0. -/
theorem ins0_at (b : Fin 16) (v : Fin 50) (d : Fin 4) :
    (V m c main_v38 : FVec Ideal S16x50x4 .f32) (ix3 b v d)
      = (m ((c : Thread nD τ).loc main_arg0) : FVec Ideal S16x12x50x4 .f32) (ix4 b 0 v d) := by
  after_reads_simp
  pointwise

/-- Type `i + 1` among the four. -/
theorem succ_eq (i : Fin 3) : i.succ = ⟨1 + i.val, by omega⟩ := Fin.ext (Nat.add_comm _ _)

/-- The receiver's rows of the first layer. -/
theorem wr_at (i : Fin 3) (q k : Fin 64) :
    (V m c main_v30 : FVec Ideal S3x64x64 .f32) (ix3 i q k)
      = (m ((c : Thread nD τ).loc main_arg2) : FVec Ideal S4x128x64 .f32) (ix3 i.succ (Fin.castAdd 64 q) k) := by
  after_reads_simp
  pointwise
  rw [succ_eq]; rfl

/-- The sender's rows of the first layer. -/
theorem ws_at (i : Fin 3) (q k : Fin 64) :
    (V m c main_v31 : FVec Ideal S3x64x64 .f32) (ix3 i q k)
      = (m ((c : Thread nD τ).loc main_arg2) : FVec Ideal S4x128x64 .f32) (ix3 i.succ (Fin.natAdd 64 q) k) := by
  after_reads_simp
  pointwise
  rw [succ_eq]; rfl

/-- The first layer's bias. -/
theorem b1_at (i : Fin 3) (k : Fin 64) :
    (V m c main_v33 : FVec Ideal S3x1x64 .f32) (ix3 i 0 k)
      = (m ((c : Thread nD τ).loc main_arg3) : FVec Ideal S4x64 .f32) (ix2 i.succ k) := by
  after_reads_simp
  pointwise
  rw [succ_eq]

/-- The second layer. -/
theorem f2_at (i : Fin 3) (q k : Fin 64) :
    (V m c main_v34 : FVec Ideal S3x64x64 .f32) (ix3 i q k)
      = (m ((c : Thread nD τ).loc main_arg4) : FVec Ideal S4x64x64 .f32) (ix3 i.succ q k) := by
  after_reads_simp
  pointwise
  rw [succ_eq]

/-- The second layer's bias. -/
theorem b2_at (i : Fin 3) (k : Fin 64) :
    (V m c main_v36 : FVec Ideal S3x1x64 .f32) (ix3 i 0 k)
      = (m ((c : Thread nD τ).loc main_arg5) : FVec Ideal S4x64 .f32) (ix2 i.succ k) := by
  after_reads_simp
  pointwise
  rw [succ_eq]

/-- A bias as a row. -/
theorem bias10_at (k : Fin 64) :
    (V m c main_v39 : FVec Ideal S1x64 .f32) (ix2 0 k)
      = (m ((c : Thread nD τ).loc main_arg10) : FVec Ideal S64 .f32) (ix1 k) := by
  after_reads_simp
  pointwise

/-- A bias as a row. -/
theorem bias12_at (k : Fin 64) :
    (V m c main_v40 : FVec Ideal S1x64 .f32) (ix2 0 k)
      = (m ((c : Thread nD τ).loc main_arg12) : FVec Ideal S64 .f32) (ix1 k) := by
  after_reads_simp
  pointwise

/-- A bias as a row. -/
theorem bias14_at (k : Fin 64) :
    (V m c main_v41 : FVec Ideal S1x64 .f32) (ix2 0 k)
      = (m ((c : Thread nD τ).loc main_arg14) : FVec Ideal S64 .f32) (ix1 k) := by
  after_reads_simp
  pointwise

/-- A bias as a row. -/
theorem bias16_at (k : Fin 64) :
    (V m c main_v42 : FVec Ideal S1x64 .f32) (ix2 0 k)
      = (m ((c : Thread nD τ).loc main_arg16) : FVec Ideal S64 .f32) (ix1 k) := by
  after_reads_simp
  pointwise

/-- A bias as a row. -/
theorem bias18_at (k : Fin 64) :
    (V m c main_v43 : FVec Ideal S1x64 .f32) (ix2 0 k)
      = (m ((c : Thread nD τ).loc main_arg18) : FVec Ideal S64 .f32) (ix1 k) := by
  after_reads_simp
  pointwise

/-- A bias as a row. -/
theorem bias20_at (k : Fin 4) :
    (V m c main_v44 : FVec Ideal S1x4 .f32) (ix2 0 k)
      = (m ((c : Thread nD τ).loc main_arg20) : FVec Ideal S4 .f32) (ix1 k) := by
  after_reads_simp
  pointwise

/-- The edges' weights of the last three types, by type, sender and place among the sender's edges. -/
def vals : FVec Ideal S16x3x50x49 .f32 :=
  shapeCast S16x3x50x49 (transpose S16x3x2450 [0, 2, 1]
    (extractStridedSlice S16x2450x3 ![0, 0, 1] (m ((c : Thread nD τ).loc main_arg1)) slices_S16x2450x4_S16x2450x3_0_0_1)
    transposes_S16x2450x3_S16x3x2450_0_2_1) shapeCasts_S16x3x2450_S16x3x50x49

/-- A column of zeros. -/
def zcol : FVec Ideal S16x3x50x1 .f32 := broadcastInDim S16x3x50x1 ![] bcast_S_S16x3x50x1 (constant S_ .f32 0x00000000#32)

/-- The number of a column. -/
def colNo : IVec S50x50 32 := broadcastInDim S50x50 ![0, 1] bcast_S1x50_S50x50_0_1 (broadcastInDim S1x50 ![1] bcast_S50_S1x50_1 (iotaInDim S50 32 0))

/-- The number of a row. -/
def rowNo : IVec S50x50 32 := broadcastInDim S50x50 ![0, 1] bcast_S50x1_S50x50_0_1 (broadcastInDim S50x1 ![0] bcast_S50_S50x1_0 (iotaInDim S50 32 0))

/-- Zeros of the weights' shape. -/
def zeros : FVec Ideal S16x3x50x50 .f32 := broadcastInDim S16x3x50x50 ![] bcast_S_S16x3x50x50 (constant S_ .f32 0x00000000#32)

/-- The weights by type and sender, as the kernel makes them. -/
theorem v2_eq : V m c main_v2 = vals m c := by
  after_reads_simp
  rfl

/-- The column of zeros. -/
theorem v3_eq : V m c main_v3 = zcol := by
  after_reads_simp
  rfl

/-- The weights, with the column of zeros behind. -/
theorem v4_eq : V m c main_v4 = concatenate S16x3x50x50 3 [⟨S16x3x50x49, vals m c⟩, ⟨S16x3x50x1, zcol⟩] concatenates_S16x3x50x49_S16x3x50x1_S16x3x50x50_d3 := by
  rw [← v2_eq, ← v3_eq m c]
  after_reads_simp
  rfl

/-- The weights, with the column of zeros in front. -/
theorem v5_eq : V m c main_v5 = concatenate S16x3x50x50 3 [⟨S16x3x50x1, zcol⟩, ⟨S16x3x50x49, vals m c⟩] concatenates_S16x3x50x1_S16x3x50x49_S16x3x50x50_d3 := by
  rw [← v2_eq, ← v3_eq m c]
  after_reads_simp
  rfl

/-- The weights of the receivers before the sender. -/
theorem v13_eq : V m c main_v13 = select (broadcastInDim S16x3x50x50 ![2, 3] bcast_S50x50_S16x3x50x50_2_3 (cmpi .slt colNo rowNo)) (V m c main_v4) zeros := by
  after_reads_simp
  rfl

/-- The weights of the receivers after the sender. -/
theorem v17_eq : V m c main_v17 = select (broadcastInDim S16x3x50x50 ![2, 3] bcast_S50x50_S16x3x50x50_2_3 (cmpi .sgt colNo rowNo)) (V m c main_v5) zeros := by
  after_reads_simp
  rfl

/-- The weights by type, receiver and sender. -/
theorem v19_eq : V m c main_v19 = transpose S16x3x50x50 [0, 1, 3, 2] (addf (V m c main_v13 : FVec Ideal S16x3x50x50 .f32) (V m c main_v17) : FVec Ideal S16x3x50x50 .f32) transposes_S16x3x50x50_S16x3x50x50_0_1_3_2 := by
  after_reads_simp

/-- The first table. -/
theorem v25_eq : V m c main_v25 = select (cmpi .eq (Host.divsi (iotaInDim S50x2800 32 1) (broadcastInDim S50x2800 ![] bcast_S_S50x2800 (constantI S_ 32 56#32))) (iotaInDim S50x2800 32 0))
    (broadcastInDim S50x2800 ![] bcast_S_S50x2800 (constant (F := Ideal) S_ .f32 0x3F800000#32))
    (broadcastInDim S50x2800 ![] bcast_S_S50x2800 (constant S_ .f32 0x00000000#32)) := by
  after_reads_simp
  rfl

/-- The second table. -/
theorem v29_eq : V m c main_v29 = select (cmpi .eq (Host.remsi (iotaInDim S50x2800 32 1) (broadcastInDim S50x2800 ![] bcast_S_S50x2800 (constantI S_ 32 56#32))) (iotaInDim S50x2800 32 0))
    (broadcastInDim S50x2800 ![] bcast_S_S50x2800 (constant (F := Ideal) S_ .f32 0x3F800000#32))
    (broadcastInDim S50x2800 ![] bcast_S_S50x2800 (constant S_ .f32 0x00000000#32)) := by
  after_reads_simp
  rfl

/-- The quotient of a pair's number. -/
theorem quot_eq : ∀ p : Fin 2800, IntOp.divsi ArithUnit.host (BitVec.ofNat 32 p.val) 56#32 = BitVec.ofNat 32 (p.val / 56) := by
  decide +kernel

/-- The remainder of a pair's number. -/
theorem rest_eq : ∀ p : Fin 2800, IntOp.remsi ArithUnit.host (BitVec.ofNat 32 p.val) 56#32 = BitVec.ofNat 32 (p.val % 56) := by
  decide +kernel

/-- Row `u` of the first table marks the pairs of sender `u`. -/
theorem rmat_at (u : Fin 50) (p : Fin 2800) :
    (V m c main_v25 : FVec Ideal S50x2800 .f32) (ix2 u p) = if p.val / 56 = u.val then (1 : EReal) else 0 := by
  rw [v25_eq]
  pointwise
  rw [quot_eq, WordCmp.cmpi_eq_ofNat (by omega) (by omega), WordCmp.select_decide]

/-- Row `v` of the second table marks the pairs of receiver `v`. -/
theorem mask_at (v : Fin 50) (p : Fin 2800) :
    (V m c main_v29 : FVec Ideal S50x2800 .f32) (ix2 v p) = if p.val % 56 = v.val then (1 : EReal) else 0 := by
  rw [v29_eq]
  pointwise
  rw [rest_eq, WordCmp.cmpi_eq_ofNat (by omega) (by omega), WordCmp.select_decide]

/-- A weight among the sender's edges. -/
theorem vals_at (b : Fin 16) (i : Fin 3) (s : Fin 50) (k : Fin 49) : vals m c (ix4 b i s k)
    = (m ((c : Thread nD τ).loc main_arg1) : FVec Ideal S16x2450x4 .f32) (ix3 b ⟨s.val * 49 + k.val, by omega⟩ i.succ) := by
  pointwise [vals]
  rw [succ_eq]

/-- The weights of type `i + 1`. -/
theorem wt_at (b : Fin 16) (i : Fin 3) (v s : Fin 50) :
    (V m c main_v19 : FVec Ideal S16x3x50x50 .f32) (ix4 b i v s)
      = wgt (fun e i => (m ((c : Thread nD τ).loc main_arg1) : FVec Ideal S16x2450x4 .f32) (ix3 b e i)) i.succ s v := by
  rw [v19_eq, v13_eq, v17_eq, v4_eq, v5_eq]
  pointwise [colNo, rowNo, zeros]
  rw [WordCmp.cmpi_slt_ofNat (by omega) (by omega), WordCmp.cmpi_sgt_ofNat (by omega) (by omega), WordCmp.select_decide, WordCmp.select_decide]
  simp only [vals_at]
  unfold wgt
  by_cases h : v.val < s.val
  · rw [if_pos h, dif_pos (show v.val < 49 by omega), if_neg (by omega), dif_pos h, add_zero]
  · by_cases h' : s.val < v.val
    · rw [if_neg h, if_pos h', dif_neg (show ¬ v.val < 1 by omega), dif_neg h, dif_pos h', zero_add]
      congr 2
      apply Fin.ext
      show s.val * 49 + (v.val - 1) = s.val * 49 + v.val - 1
      omega
    · rw [if_neg h, if_neg h', dif_neg h, dif_neg h', add_zero]

end Cert.Proof.Host
end
-- ==== Proof.KerBlocks.lean ====
/- What each window holds at a grid point: one batch element of the first positions and of the edges' weights, the
   whole of every other array. -/
module

public import proofs.«01_k».proof.Proof.IdealFrame
public import Idealize.ShloMosaic.Lib.Pointwise

@[expose] public section

set_option maxRecDepth 16384

noncomputable section

namespace Cert.Proof.Host

open Idealize.ShloMosaic Idealize.ShloMosaic.TcCoe Cert.KernelIdeal Cert.KernelIdeal.Gen

variable (m : (ℓ : Loc nD τ sig) → Buf (Elt Ideal) ℓ) (c : Dev nD)

/-- Grid point `t` is batch element `t`. -/
abbrev elem (t : Fin cfg0.N) : Fin 16 := ⟨t.val, t.isLt.trans_eq (by decide)⟩

/-- Window 0 is at batch element `t`. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The first positions of batch element `t`. -/
theorem block0 (t : Fin cfg0.N) (v : Fin 50) (d : Fin 4) :
    (iblk m c 0 t : FVec Ideal S1x50x4 .f32) (ix3 0 v d) = (V m c main_v38 : FVec Ideal S16x50x4 .f32) (ix3 (elem t) v d) := by
  obtain ⟨e0, e1, e2⟩ := idx0 t
  show V m c main_v38 (((cfg0.win 0).blk t).view.emb (ix3 0 v d)) = _
  congr 1
  funext a; apply Fin.ext
  match a with
  | ⟨0, _⟩ => show win0_0.index t (0 : Fin 3) * 1 + 1 * 0 = t.val; omega
  | ⟨1, _⟩ => show win0_0.index t (1 : Fin 3) * 50 + 1 * v.val = v.val; omega
  | ⟨2, _⟩ => show win0_0.index t (2 : Fin 3) * 4 + 1 * d.val = d.val; omega

/-- Window 1 is at batch element `t`. -/
theorem idx1 : ∀ t : Fin cfg0.N, win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- The edges' weights of batch element `t`. -/
theorem block1 (t : Fin cfg0.N) (i : Fin 3) (v s : Fin 50) :
    (iblk m c 1 t : FVec Ideal S1x3x50x50 .f32) (ix4 0 i v s) = (V m c main_v19 : FVec Ideal S16x3x50x50 .f32) (ix4 (elem t) i v s) := by
  obtain ⟨e0, e1, e2, e3⟩ := idx1 t
  show V m c main_v19 (((cfg0.win 1).blk t).view.emb (ix4 0 i v s)) = _
  congr 1
  funext a; apply Fin.ext
  match a with
  | ⟨0, _⟩ => show win0_1.index t (0 : Fin 4) * 1 + 1 * 0 = t.val; omega
  | ⟨1, _⟩ => show win0_1.index t (1 : Fin 4) * 3 + 1 * i.val = i.val; omega
  | ⟨2, _⟩ => show win0_1.index t (2 : Fin 4) * 50 + 1 * v.val = v.val; omega
  | ⟨3, _⟩ => show win0_1.index t (3 : Fin 4) * 50 + 1 * s.val = s.val; omega

/-- The result's window is at batch element `t`. -/
theorem idx24 : ∀ t : Fin cfg0.N, win0_24.index t (0 : Fin 4) = t.val ∧ win0_24.index t (1 : Fin 4) = 0 ∧ win0_24.index t (2 : Fin 4) = 0
    ∧ win0_24.index t (3 : Fin 4) = 0 :=
  (by decide +kernel : ∀ t : Fin grid0.N, _)

/-- Where the result's block of point `t` lies. -/
theorem emb24 (t : Fin cfg0.N) (r : Fin 12) (v : Fin 50) (d : Fin 4) :
    ((cfg0.win 24).blk t).view.emb (ix4 0 r v d) = (ix4 (elem t) r v d : S16x12x50x4.Idx) := by
  obtain ⟨e0, e1, e2, e3⟩ := idx24 t
  funext a; apply Fin.ext
  match a with
  | ⟨0, _⟩ => show win0_24.index t (0 : Fin 4) * 1 + 1 * 0 = t.val; omega
  | ⟨1, _⟩ => show win0_24.index t (1 : Fin 4) * 12 + 1 * r.val = r.val; omega
  | ⟨2, _⟩ => show win0_24.index t (2 : Fin 4) * 50 + 1 * v.val = v.val; omega
  | ⟨3, _⟩ => show win0_24.index t (3 : Fin 4) * 4 + 1 * d.val = d.val; omega

/-- Window 2 stays in place. -/
theorem idx2 : ∀ t : Fin cfg0.N, win0_2.index t (0 : Fin 2) = 0 ∧ win0_2.index t (1 : Fin 2) = 0 :=
  (by decide +kernel : ∀ t : Fin grid0.N, _)

/-- Window 2 holds its whole array. -/
theorem block2 (t : Fin cfg0.N) : iblk m c 2 t = V m c main_v29 := by
  obtain ⟨e0, e1⟩ := idx2 t
  funext j
  show V m c main_v29 (((cfg0.win 2).blk t).view.emb j) = V m c main_v29 j
  congr 1
  funext a; apply Fin.ext
  match a with
  | ⟨0, _⟩ => show win0_2.index t (0 : Fin 2) * 50 + 1 * (j 0).val = (j 0).val; omega
  | ⟨1, _⟩ => show win0_2.index t (1 : Fin 2) * 2800 + 1 * (j 1).val = (j 1).val; omega

/-- Window 3 stays in place. -/
theorem idx3 : ∀ t : Fin cfg0.N, win0_3.index t (0 : Fin 2) = 0 ∧ win0_3.index t (1 : Fin 2) = 0 :=
  (by decide +kernel : ∀ t : Fin grid0.N, _)

/-- Window 3 holds its whole array. -/
theorem block3 (t : Fin cfg0.N) : iblk m c 3 t = V m c main_v25 := by
  obtain ⟨e0, e1⟩ := idx3 t
  funext j
  show V m c main_v25 (((cfg0.win 3).blk t).view.emb j) = V m c main_v25 j
  congr 1
  funext a; apply Fin.ext
  match a with
  | ⟨0, _⟩ => show win0_3.index t (0 : Fin 2) * 50 + 1 * (j 0).val = (j 0).val; omega
  | ⟨1, _⟩ => show win0_3.index t (1 : Fin 2) * 2800 + 1 * (j 1).val = (j 1).val; omega

/-- Window 4 stays in place. -/
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

/-- Window 4 holds its whole array. -/
theorem block4 (t : Fin cfg0.N) : iblk m c 4 t = V m c main_v30 := by
  obtain ⟨e0, e1, e2⟩ := idx4 t
  funext j
  show V m c main_v30 (((cfg0.win 4).blk t).view.emb j) = V m c main_v30 j
  congr 1
  funext a; apply Fin.ext
  match a with
  | ⟨0, _⟩ => show win0_4.index t (0 : Fin 3) * 3 + 1 * (j 0).val = (j 0).val; omega
  | ⟨1, _⟩ => show win0_4.index t (1 : Fin 3) * 64 + 1 * (j 1).val = (j 1).val; omega
  | ⟨2, _⟩ => show win0_4.index t (2 : Fin 3) * 64 + 1 * (j 2).val = (j 2).val; omega

/-- Window 5 stays in place. -/
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Window 5 holds its whole array. -/
theorem block5 (t : Fin cfg0.N) : iblk m c 5 t = V m c main_v31 := by
  obtain ⟨e0, e1, e2⟩ := idx5 t
  funext j
  show V m c main_v31 (((cfg0.win 5).blk t).view.emb j) = V m c main_v31 j
  congr 1
  funext a; apply Fin.ext
  match a with
  | ⟨0, _⟩ => show win0_5.index t (0 : Fin 3) * 3 + 1 * (j 0).val = (j 0).val; omega
  | ⟨1, _⟩ => show win0_5.index t (1 : Fin 3) * 64 + 1 * (j 1).val = (j 1).val; omega
  | ⟨2, _⟩ => show win0_5.index t (2 : Fin 3) * 64 + 1 * (j 2).val = (j 2).val; omega

/-- Window 6 stays in place. -/
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

/-- Window 6 holds its whole array. -/
theorem block6 (t : Fin cfg0.N) : iblk m c 6 t = V m c main_v33 := by
  obtain ⟨e0, e1, e2⟩ := idx6 t
  funext j
  show V m c main_v33 (((cfg0.win 6).blk t).view.emb j) = V m c main_v33 j
  congr 1
  funext a; apply Fin.ext
  match a with
  | ⟨0, _⟩ => show win0_6.index t (0 : Fin 3) * 3 + 1 * (j 0).val = (j 0).val; omega
  | ⟨1, _⟩ => show win0_6.index t (1 : Fin 3) * 1 + 1 * (j 1).val = (j 1).val; omega
  | ⟨2, _⟩ => show win0_6.index t (2 : Fin 3) * 64 + 1 * (j 2).val = (j 2).val; omega

/-- Window 7 stays in place. -/
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

/-- Window 7 holds its whole array. -/
theorem block7 (t : Fin cfg0.N) : iblk m c 7 t = V m c main_v34 := by
  obtain ⟨e0, e1, e2⟩ := idx7 t
  funext j
  show V m c main_v34 (((cfg0.win 7).blk t).view.emb j) = V m c main_v34 j
  congr 1
  funext a; apply Fin.ext
  match a with
  | ⟨0, _⟩ => show win0_7.index t (0 : Fin 3) * 3 + 1 * (j 0).val = (j 0).val; omega
  | ⟨1, _⟩ => show win0_7.index t (1 : Fin 3) * 64 + 1 * (j 1).val = (j 1).val; omega
  | ⟨2, _⟩ => show win0_7.index t (2 : Fin 3) * 64 + 1 * (j 2).val = (j 2).val; omega

/-- Window 8 stays in place. -/
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)

/-- Window 8 holds its whole array. -/
theorem block8 (t : Fin cfg0.N) : iblk m c 8 t = V m c main_v36 := by
  obtain ⟨e0, e1, e2⟩ := idx8 t
  funext j
  show V m c main_v36 (((cfg0.win 8).blk t).view.emb j) = V m c main_v36 j
  congr 1
  funext a; apply Fin.ext
  match a with
  | ⟨0, _⟩ => show win0_8.index t (0 : Fin 3) * 3 + 1 * (j 0).val = (j 0).val; omega
  | ⟨1, _⟩ => show win0_8.index t (1 : Fin 3) * 1 + 1 * (j 1).val = (j 1).val; omega
  | ⟨2, _⟩ => show win0_8.index t (2 : Fin 3) * 64 + 1 * (j 2).val = (j 2).val; omega

/-- Window 9 stays in place. -/
theorem idx9 : ∀ t : Fin cfg0.N, win0_9.index t (0 : Fin 2) = 0 ∧ win0_9.index t (1 : Fin 2) = 0 :=
  (by decide +kernel : ∀ t : Fin grid0.N, _)

/-- Window 9 holds its whole array. -/
theorem block9 (t : Fin cfg0.N) : iblk m c 9 t = V m c main_arg6 := by
  obtain ⟨e0, e1⟩ := idx9 t
  funext j
  show V m c main_arg6 (((cfg0.win 9).blk t).view.emb j) = V m c main_arg6 j
  congr 1
  funext a; apply Fin.ext
  match a with
  | ⟨0, _⟩ => show win0_9.index t (0 : Fin 2) * 64 + 1 * (j 0).val = (j 0).val; omega
  | ⟨1, _⟩ => show win0_9.index t (1 : Fin 2) * 64 + 1 * (j 1).val = (j 1).val; omega

/-- Window 10 stays in place. -/
theorem idx10 : ∀ t : Fin cfg0.N, win0_10.index t (0 : Fin 2) = 0 ∧ win0_10.index t (1 : Fin 2) = 0 :=
  (by decide +kernel : ∀ t : Fin grid0.N, _)

/-- Window 10 holds its whole array. -/
theorem block10 (t : Fin cfg0.N) : iblk m c 10 t = V m c main_arg7 := by
  obtain ⟨e0, e1⟩ := idx10 t
  funext j
  show V m c main_arg7 (((cfg0.win 10).blk t).view.emb j) = V m c main_arg7 j
  congr 1
  funext a; apply Fin.ext
  match a with
  | ⟨0, _⟩ => show win0_10.index t (0 : Fin 2) * 64 + 1 * (j 0).val = (j 0).val; omega
  | ⟨1, _⟩ => show win0_10.index t (1 : Fin 2) * 64 + 1 * (j 1).val = (j 1).val; omega

/-- Window 11 stays in place. -/
theorem idx11 : ∀ t : Fin cfg0.N, win0_11.index t (0 : Fin 2) = 0 ∧ win0_11.index t (1 : Fin 2) = 0 :=
  (by decide +kernel : ∀ t : Fin grid0.N, _)

/-- Window 11 holds its whole array. -/
theorem block11 (t : Fin cfg0.N) : iblk m c 11 t = V m c main_arg8 := by
  obtain ⟨e0, e1⟩ := idx11 t
  funext j
  show V m c main_arg8 (((cfg0.win 11).blk t).view.emb j) = V m c main_arg8 j
  congr 1
  funext a; apply Fin.ext
  match a with
  | ⟨0, _⟩ => show win0_11.index t (0 : Fin 2) * 64 + 1 * (j 0).val = (j 0).val; omega
  | ⟨1, _⟩ => show win0_11.index t (1 : Fin 2) * 64 + 1 * (j 1).val = (j 1).val; omega

/-- Window 12 stays in place. -/
theorem idx12 : ∀ t : Fin cfg0.N, win0_12.index t (0 : Fin 2) = 0 ∧ win0_12.index t (1 : Fin 2) = 0 :=
  (by decide +kernel : ∀ t : Fin grid0.N, _)

/-- Window 12 holds its whole array. -/
theorem block12 (t : Fin cfg0.N) : iblk m c 12 t = V m c main_arg9 := by
  obtain ⟨e0, e1⟩ := idx12 t
  funext j
  show V m c main_arg9 (((cfg0.win 12).blk t).view.emb j) = V m c main_arg9 j
  congr 1
  funext a; apply Fin.ext
  match a with
  | ⟨0, _⟩ => show win0_12.index t (0 : Fin 2) * 4 + 1 * (j 0).val = (j 0).val; omega
  | ⟨1, _⟩ => show win0_12.index t (1 : Fin 2) * 64 + 1 * (j 1).val = (j 1).val; omega

/-- Window 13 stays in place. -/
theorem idx13 : ∀ t : Fin cfg0.N, win0_13.index t (0 : Fin 2) = 0 ∧ win0_13.index t (1 : Fin 2) = 0 :=
  (by decide +kernel : ∀ t : Fin grid0.N, _)

/-- Window 13 holds its whole array. -/
theorem block13 (t : Fin cfg0.N) : iblk m c 13 t = V m c main_v39 := by
  obtain ⟨e0, e1⟩ := idx13 t
  funext j
  show V m c main_v39 (((cfg0.win 13).blk t).view.emb j) = V m c main_v39 j
  congr 1
  funext a; apply Fin.ext
  match a with
  | ⟨0, _⟩ => show win0_13.index t (0 : Fin 2) * 1 + 1 * (j 0).val = (j 0).val; omega
  | ⟨1, _⟩ => show win0_13.index t (1 : Fin 2) * 64 + 1 * (j 1).val = (j 1).val; omega

/-- Window 14 stays in place. -/
theorem idx14 : ∀ t : Fin cfg0.N, win0_14.index t (0 : Fin 2) = 0 ∧ win0_14.index t (1 : Fin 2) = 0 :=
  (by decide +kernel : ∀ t : Fin grid0.N, _)

/-- Window 14 holds its whole array. -/
theorem block14 (t : Fin cfg0.N) : iblk m c 14 t = V m c main_arg11 := by
  obtain ⟨e0, e1⟩ := idx14 t
  funext j
  show V m c main_arg11 (((cfg0.win 14).blk t).view.emb j) = V m c main_arg11 j
  congr 1
  funext a; apply Fin.ext
  match a with
  | ⟨0, _⟩ => show win0_14.index t (0 : Fin 2) * 4 + 1 * (j 0).val = (j 0).val; omega
  | ⟨1, _⟩ => show win0_14.index t (1 : Fin 2) * 64 + 1 * (j 1).val = (j 1).val; omega

/-- Window 15 stays in place. -/
theorem idx15 : ∀ t : Fin cfg0.N, win0_15.index t (0 : Fin 2) = 0 ∧ win0_15.index t (1 : Fin 2) = 0 :=
  (by decide +kernel : ∀ t : Fin grid0.N, _)

/-- Window 15 holds its whole array. -/
theorem block15 (t : Fin cfg0.N) : iblk m c 15 t = V m c main_v40 := by
  obtain ⟨e0, e1⟩ := idx15 t
  funext j
  show V m c main_v40 (((cfg0.win 15).blk t).view.emb j) = V m c main_v40 j
  congr 1
  funext a; apply Fin.ext
  match a with
  | ⟨0, _⟩ => show win0_15.index t (0 : Fin 2) * 1 + 1 * (j 0).val = (j 0).val; omega
  | ⟨1, _⟩ => show win0_15.index t (1 : Fin 2) * 64 + 1 * (j 1).val = (j 1).val; omega

/-- Window 16 stays in place. -/
theorem idx16 : ∀ t : Fin cfg0.N, win0_16.index t (0 : Fin 2) = 0 ∧ win0_16.index t (1 : Fin 2) = 0 :=
  (by decide +kernel : ∀ t : Fin grid0.N, _)

/-- Window 16 holds its whole array. -/
theorem block16 (t : Fin cfg0.N) : iblk m c 16 t = V m c main_arg13 := by
  obtain ⟨e0, e1⟩ := idx16 t
  funext j
  show V m c main_arg13 (((cfg0.win 16).blk t).view.emb j) = V m c main_arg13 j
  congr 1
  funext a; apply Fin.ext
  match a with
  | ⟨0, _⟩ => show win0_16.index t (0 : Fin 2) * 4 + 1 * (j 0).val = (j 0).val; omega
  | ⟨1, _⟩ => show win0_16.index t (1 : Fin 2) * 64 + 1 * (j 1).val = (j 1).val; omega

/-- Window 17 stays in place. -/
theorem idx17 : ∀ t : Fin cfg0.N, win0_17.index t (0 : Fin 2) = 0 ∧ win0_17.index t (1 : Fin 2) = 0 :=
  (by decide +kernel : ∀ t : Fin grid0.N, _)

/-- Window 17 holds its whole array. -/
theorem block17 (t : Fin cfg0.N) : iblk m c 17 t = V m c main_v41 := by
  obtain ⟨e0, e1⟩ := idx17 t
  funext j
  show V m c main_v41 (((cfg0.win 17).blk t).view.emb j) = V m c main_v41 j
  congr 1
  funext a; apply Fin.ext
  match a with
  | ⟨0, _⟩ => show win0_17.index t (0 : Fin 2) * 1 + 1 * (j 0).val = (j 0).val; omega
  | ⟨1, _⟩ => show win0_17.index t (1 : Fin 2) * 64 + 1 * (j 1).val = (j 1).val; omega

/-- Window 18 stays in place. -/
theorem idx18 : ∀ t : Fin cfg0.N, win0_18.index t (0 : Fin 2) = 0 ∧ win0_18.index t (1 : Fin 2) = 0 :=
  (by decide +kernel : ∀ t : Fin grid0.N, _)

/-- Window 18 holds its whole array. -/
theorem block18 (t : Fin cfg0.N) : iblk m c 18 t = V m c main_arg15 := by
  obtain ⟨e0, e1⟩ := idx18 t
  funext j
  show V m c main_arg15 (((cfg0.win 18).blk t).view.emb j) = V m c main_arg15 j
  congr 1
  funext a; apply Fin.ext
  match a with
  | ⟨0, _⟩ => show win0_18.index t (0 : Fin 2) * 64 + 1 * (j 0).val = (j 0).val; omega
  | ⟨1, _⟩ => show win0_18.index t (1 : Fin 2) * 64 + 1 * (j 1).val = (j 1).val; omega

/-- Window 19 stays in place. -/
theorem idx19 : ∀ t : Fin cfg0.N, win0_19.index t (0 : Fin 2) = 0 ∧ win0_19.index t (1 : Fin 2) = 0 :=
  (by decide +kernel : ∀ t : Fin grid0.N, _)

/-- Window 19 holds its whole array. -/
theorem block19 (t : Fin cfg0.N) : iblk m c 19 t = V m c main_v42 := by
  obtain ⟨e0, e1⟩ := idx19 t
  funext j
  show V m c main_v42 (((cfg0.win 19).blk t).view.emb j) = V m c main_v42 j
  congr 1
  funext a; apply Fin.ext
  match a with
  | ⟨0, _⟩ => show win0_19.index t (0 : Fin 2) * 1 + 1 * (j 0).val = (j 0).val; omega
  | ⟨1, _⟩ => show win0_19.index t (1 : Fin 2) * 64 + 1 * (j 1).val = (j 1).val; omega

/-- Window 20 stays in place. -/
theorem idx20 : ∀ t : Fin cfg0.N, win0_20.index t (0 : Fin 2) = 0 ∧ win0_20.index t (1 : Fin 2) = 0 :=
  (by decide +kernel : ∀ t : Fin grid0.N, _)

/-- Window 20 holds its whole array. -/
theorem block20 (t : Fin cfg0.N) : iblk m c 20 t = V m c main_arg17 := by
  obtain ⟨e0, e1⟩ := idx20 t
  funext j
  show V m c main_arg17 (((cfg0.win 20).blk t).view.emb j) = V m c main_arg17 j
  congr 1
  funext a; apply Fin.ext
  match a with
  | ⟨0, _⟩ => show win0_20.index t (0 : Fin 2) * 64 + 1 * (j 0).val = (j 0).val; omega
  | ⟨1, _⟩ => show win0_20.index t (1 : Fin 2) * 64 + 1 * (j 1).val = (j 1).val; omega

/-- Window 21 stays in place. -/
theorem idx21 : ∀ t : Fin cfg0.N, win0_21.index t (0 : Fin 2) = 0 ∧ win0_21.index t (1 : Fin 2) = 0 :=
  (by decide +kernel : ∀ t : Fin grid0.N, _)

/-- Window 21 holds its whole array. -/
theorem block21 (t : Fin cfg0.N) : iblk m c 21 t = V m c main_v43 := by
  obtain ⟨e0, e1⟩ := idx21 t
  funext j
  show V m c main_v43 (((cfg0.win 21).blk t).view.emb j) = V m c main_v43 j
  congr 1
  funext a; apply Fin.ext
  match a with
  | ⟨0, _⟩ => show win0_21.index t (0 : Fin 2) * 1 + 1 * (j 0).val = (j 0).val; omega
  | ⟨1, _⟩ => show win0_21.index t (1 : Fin 2) * 64 + 1 * (j 1).val = (j 1).val; omega

/-- Window 22 stays in place. -/
theorem idx22 : ∀ t : Fin cfg0.N, win0_22.index t (0 : Fin 2) = 0 ∧ win0_22.index t (1 : Fin 2) = 0 :=
  (by decide +kernel : ∀ t : Fin grid0.N, _)

/-- Window 22 holds its whole array. -/
theorem block22 (t : Fin cfg0.N) : iblk m c 22 t = V m c main_arg19 := by
  obtain ⟨e0, e1⟩ := idx22 t
  funext j
  show V m c main_arg19 (((cfg0.win 22).blk t).view.emb j) = V m c main_arg19 j
  congr 1
  funext a; apply Fin.ext
  match a with
  | ⟨0, _⟩ => show win0_22.index t (0 : Fin 2) * 64 + 1 * (j 0).val = (j 0).val; omega
  | ⟨1, _⟩ => show win0_22.index t (1 : Fin 2) * 4 + 1 * (j 1).val = (j 1).val; omega

/-- Window 23 stays in place. -/
theorem idx23 : ∀ t : Fin cfg0.N, win0_23.index t (0 : Fin 2) = 0 ∧ win0_23.index t (1 : Fin 2) = 0 :=
  (by decide +kernel : ∀ t : Fin grid0.N, _)

/-- Window 23 holds its whole array. -/
theorem block23 (t : Fin cfg0.N) : iblk m c 23 t = V m c main_v44 := by
  obtain ⟨e0, e1⟩ := idx23 t
  funext j
  show V m c main_v44 (((cfg0.win 23).blk t).view.emb j) = V m c main_v44 j
  congr 1
  funext a; apply Fin.ext
  match a with
  | ⟨0, _⟩ => show win0_23.index t (0 : Fin 2) * 1 + 1 * (j 0).val = (j 0).val; omega
  | ⟨1, _⟩ => show win0_23.index t (1 : Fin 2) * 4 + 1 * (j 1).val = (j 1).val; omega

end Cert.Proof.Host
end
-- ==== Proof.KerResult.lean ====
/- What the kernel returns: row `r` of its result is the positions after `r + 1` steps. -/
module

public import proofs.«01_k».proof.Proof.KerBlock
public import proofs.«01_k».proof.Proof.KerHolds
public import proofs.«01_k».proof.Proof.KerHost
public import proofs.«01_k».proof.Proof.KerBlocks
public import proofs.«01_k».proof.Proof.IdealValue

@[expose] public section

set_option maxRecDepth 16384
set_option maxHeartbeats 2000000

noncomputable section

namespace Cert.Proof.Ker

open Idealize.ShloMosaic Idealize.ShloMosaic.TcCoe Cert.KernelIdeal Cert.KernelIdeal.Gen Cert.Proof.Spec Cert.Proof.Host

variable (m : (ℓ : Loc nD τ sig) → Buf (Elt Ideal) ℓ) (c : Dev nD)

/-- The network's weights, from the arguments. -/
def weights : Weights where
  m1 i q k := (m ((c : Thread nD τ).loc main_arg2) : FVec Ideal S4x128x64 .f32) (ix3 i q k)
  m1b i k := (m ((c : Thread nD τ).loc main_arg3) : FVec Ideal S4x64 .f32) (ix2 i k)
  m2 i q k := (m ((c : Thread nD τ).loc main_arg4) : FVec Ideal S4x64x64 .f32) (ix3 i q k)
  m2b i k := (m ((c : Thread nD τ).loc main_arg5) : FVec Ideal S4x64 .f32) (ix2 i k)
  hr q k := (m ((c : Thread nD τ).loc main_arg6) : FVec Ideal S64x64 .f32) (ix2 q k)
  hi q k := (m ((c : Thread nD τ).loc main_arg7) : FVec Ideal S64x64 .f32) (ix2 q k)
  hn q k := (m ((c : Thread nD τ).loc main_arg8) : FVec Ideal S64x64 .f32) (ix2 q k)
  ir q k := (m ((c : Thread nD τ).loc main_arg9) : FVec Ideal S4x64 .f32) (ix2 q k)
  irb k := (m ((c : Thread nD τ).loc main_arg10) : FVec Ideal S64 .f32) (ix1 k)
  ii q k := (m ((c : Thread nD τ).loc main_arg11) : FVec Ideal S4x64 .f32) (ix2 q k)
  iib k := (m ((c : Thread nD τ).loc main_arg12) : FVec Ideal S64 .f32) (ix1 k)
  inn q k := (m ((c : Thread nD τ).loc main_arg13) : FVec Ideal S4x64 .f32) (ix2 q k)
  inb k := (m ((c : Thread nD τ).loc main_arg14) : FVec Ideal S64 .f32) (ix1 k)
  o1 q k := (m ((c : Thread nD τ).loc main_arg15) : FVec Ideal S64x64 .f32) (ix2 q k)
  o1b k := (m ((c : Thread nD τ).loc main_arg16) : FVec Ideal S64 .f32) (ix1 k)
  o2 q k := (m ((c : Thread nD τ).loc main_arg17) : FVec Ideal S64x64 .f32) (ix2 q k)
  o2b k := (m ((c : Thread nD τ).loc main_arg18) : FVec Ideal S64 .f32) (ix1 k)
  o3 q k := (m ((c : Thread nD τ).loc main_arg19) : FVec Ideal S64x4 .f32) (ix2 q k)
  o3b k := (m ((c : Thread nD τ).loc main_arg20) : FVec Ideal S4 .f32) (ix1 k)

/-- The edges' weights of element `b` of the batch, from the arguments. -/
def edges (b : Fin 16) (e : Fin 2450) (i : Fin 4) : EReal := (m ((c : Thread nD τ).loc main_arg1) : FVec Ideal S16x2450x4 .f32) (ix3 b e i)

/-- The first positions of element `b` of the batch, from the arguments. -/
def places (b : Fin 16) (v : Fin 50) (d : Fin 4) : EReal := (m ((c : Thread nD τ).loc main_arg0) : FVec Ideal S16x12x50x4 .f32) (ix4 b 0 v d)

/-- The values loaded at point `t` are the network's weights and the edges' weights of element `t`. -/
theorem holds_at (t : Fin cfg0.N) :
    Holds (loads (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) (weights m c) (edges m c (elem t)) :=
  holds (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (weights m c) (edges m c (elem t))
    (fun i v s => (block1 m c t i v s).trans (wt_at m c (elem t) i v s))
    (fun v p => (congrFun (block2 m c t) (ix2 v p)).trans (mask_at m c v p))
    (fun u p => (congrFun (block3 m c t) (ix2 u p)).trans (rmat_at m c u p))
    (fun i q k => (congrFun (block4 m c t) (ix3 i q k)).trans (wr_at m c i q k))
    (fun i q k => (congrFun (block5 m c t) (ix3 i q k)).trans (ws_at m c i q k))
    (fun i k => (congrFun (block6 m c t) (ix3 i 0 k)).trans (b1_at m c i k))
    (fun i q k => (congrFun (block7 m c t) (ix3 i q k)).trans (f2_at m c i q k))
    (fun i k => (congrFun (block8 m c t) (ix3 i 0 k)).trans (b2_at m c i k))
    (fun q k => congrFun ((block9 m c t).trans (V_main_arg6 m c)) (ix2 q k))
    (fun q k => congrFun ((block10 m c t).trans (V_main_arg7 m c)) (ix2 q k))
    (fun q k => congrFun ((block11 m c t).trans (V_main_arg8 m c)) (ix2 q k))
    (fun q k => congrFun ((block12 m c t).trans (V_main_arg9 m c)) (ix2 q k))
    (fun k => (congrFun (block13 m c t) (ix2 0 k)).trans (bias10_at m c k))
    (fun q k => congrFun ((block14 m c t).trans (V_main_arg11 m c)) (ix2 q k))
    (fun k => (congrFun (block15 m c t) (ix2 0 k)).trans (bias12_at m c k))
    (fun q k => congrFun ((block16 m c t).trans (V_main_arg13 m c)) (ix2 q k))
    (fun k => (congrFun (block17 m c t) (ix2 0 k)).trans (bias14_at m c k))
    (fun q k => congrFun ((block18 m c t).trans (V_main_arg15 m c)) (ix2 q k))
    (fun k => (congrFun (block19 m c t) (ix2 0 k)).trans (bias16_at m c k))
    (fun q k => congrFun ((block20 m c t).trans (V_main_arg17 m c)) (ix2 q k))
    (fun k => (congrFun (block21 m c t) (ix2 0 k)).trans (bias18_at m c k))
    (fun q k => congrFun ((block22 m c t).trans (V_main_arg19 m c)) (ix2 q k))
    (fun k => (congrFun (block23 m c t) (ix2 0 k)).trans (bias20_at m c k))

/-- The positions loaded at point `t` are the first positions of element `t`. -/
theorem start_at (t : Fin cfg0.N) (v : Fin 50) (d : Fin 4) :
    (start (ms0_0 t) (hs0_0 t) (iblk m c 0 t)) (ix2 v d) = places m c (elem t) v d := by
  unfold start
  rw [whole_eq]
  refine Eq.trans ?_ ((block0 m c t v d).trans (ins0_at m c (elem t) v d))
  generalize (iblk m c 0 t : FVec Ideal S1x50x4 .f32) = x
  pointwise

/-- Row `r` of the block of point `t`. -/
theorem outs_at (t : Fin cfg0.N) (r : Fin 12) (v : Fin 50) (d : Fin 4) :
    outsAt0 m c t (ix4 0 r v d)
      = (run ((1 / 147 : ℝ) : EReal) (weights m c) (edges m c (elem t)) (places m c (elem t)) (r.val + 1)).2 v d := by
  unfold outsAt0
  refine (block_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) r v d).trans ?_
  rw [(after_at (holds_at m c t) (start (ms0_0 t) (hs0_0 t) (iblk m c 0 t)) (r.val + 1)).2 v d]
  simp only [start_at]

/-- The result, at an index. -/
theorem result_at (b : Fin 16) (r : Fin 12) (v : Fin 50) (d : Fin 4) :
    ((dats m 0 c).arrAt 24 cfg0.N : FVec Ideal S16x12x50x4 .f32) (ix4 b r v d)
      = (run ((1 / 147 : ℝ) : EReal) (weights m c) (edges m c b) (places m c b) (r.val + 1)).2 v d := by
  have hb : b.val < cfg0.N := b.isLt.trans_eq (by decide)
  have h := congrFun (Cert.KernelIdeal.Value.blocks24 m c ⟨b.val, hb⟩ (flush0_24 _)) (ix4 0 r v d)
  rw [Cert.KernelIdeal.Value.flushed24] at h
  have h' : ((dats m 0 c).arrAt 24 cfg0.N : FVec Ideal S16x12x50x4 .f32)
      (((cfg0.win 24).blk ⟨b.val, hb⟩).view.emb (ix4 0 r v d)) = outsAt0 m c ⟨b.val, hb⟩ (ix4 0 r v d) := h
  rw [emb24, outs_at] at h'
  exact h'

end Cert.Proof.Ker
end
-- ==== Proof.EdgeMoves.lean ====
/- Reading the nodes' rows along the edges, and where the edges' rows land. -/
module
public import proofs.«01_k».proof.Proof.Gen.ReferenceIdeal.Step
public import Idealize.ShloMosaic.Lib.Pointwise
public import Idealize.ShloMosaic.Lib.Routing.OpsPair
@[expose] public section
set_option maxRecDepth 16384
noncomputable section
namespace Cert.Proof.Ref
open Idealize.ShloMosaic Cert.ReferenceIdeal Cert.ReferenceIdeal.Step

/-- Row `e` of a gather is the row that the index at `e` names. -/
theorem gather_at (x : FVec Ideal S16x50x64 .f32) (idx : IVec S2450x1 32) (b : Fin 16) (e : Fin 2450) (k : Fin 64) (r : Fin 50)
    (h : (idx (ix2 e 0)).toInt = (r.val : Int)) :
    Host.gather gather_S16x50x64_S2450x1_S16x2450x64_02_1_n_n_1_1_16164 x idx (ix3 b e k) = x (ix3 b r k) := by
  unfold Host.gather
  refine congrArg x (funext fun a => Fin.ext ?_)
  match a with
  | ⟨0, _⟩ =>
    show 0 + 0 + b.val = b.val
    omega
  | ⟨1, _⟩ =>
    have : (gather_S16x50x64_S2450x1_S16x2450x64_02_1_n_n_1_1_16164.siIdx (ix3 b e k) ⟨0, by decide⟩) = ix2 e 0 := by
      funext a; match a with
      | ⟨0, _⟩ => rfl
      | ⟨1, _⟩ => rfl
    show min (idx (gather_S16x50x64_S2450x1_S16x2450x64_02_1_n_n_1_1_16164.siIdx (ix3 b e k) ⟨0, _⟩)).toInt.toNat (50 - 1) + 0 + 0 = r.val
    rw [this, h]; have := r.isLt; omega
  | ⟨2, _⟩ =>
    show 0 + 0 + k.val = k.val
    omega

/-- An edge's row lands at the node that its index names, in the same element and column. -/
theorem lands_at (idx : IVec S2450x1 32) (b : Fin 16) (e : Fin 2450) (k : Fin 64) (b' : Fin 16) (v : Fin 50) (k' : Fin 64) :
    scatter_S16x50x64_S2450x1_S16x2450x64_02_1_1_1.resultIdx? (ix3 b e k) idx = some (ix3 b' v k')
      ↔ b = b' ∧ (idx (ix2 e 0)).toInt = (v.val : Int) ∧ k = k' := by
  rw [Routing.resultIdx?_eq_some]
  have hs : scatter_S16x50x64_S2450x1_S16x2450x64_02_1_1_1.siIdx (ix3 b e k) ⟨0, by decide⟩ = ix2 e 0 := by
    funext a; match a with
    | ⟨0, _⟩ => rfl
    | ⟨1, _⟩ => rfl
  have h0 : scatter_S16x50x64_S2450x1_S16x2450x64_02_1_1_1.start (ix3 b e k) idx 0 = 0 := rfl
  have h1 : scatter_S16x50x64_S2450x1_S16x2450x64_02_1_1_1.start (ix3 b e k) idx 1 = (idx (ix2 e 0)).toInt := by
    rw [← hs]; rfl
  have h2 : scatter_S16x50x64_S2450x1_S16x2450x64_02_1_1_1.start (ix3 b e k) idx 2 = 0 := rfl
  have w0 : scatter_S16x50x64_S2450x1_S16x2450x64_02_1_1_1.window (ix3 b e k) 0 = b.val := rfl
  have w1 : scatter_S16x50x64_S2450x1_S16x2450x64_02_1_1_1.window (ix3 b e k) 1 = 0 := rfl
  have w2 : scatter_S16x50x64_S2450x1_S16x2450x64_02_1_1_1.window (ix3 b e k) 2 = k.val := rfl
  constructor
  · intro h
    have a0 := h 0; have a1 := h 1; have a2 := h 2
    rw [h0, w0] at a0; rw [h1, w1] at a1; rw [h2, w2] at a2
    change (0 : Int) + (b.val : Int) = (b'.val : Int) at a0
    change (idx (ix2 e 0)).toInt + ((0 : ℕ) : Int) = (v.val : Int) at a1
    change (0 : Int) + (k.val : Int) = (k'.val : Int) at a2
    refine ⟨Fin.ext (by omega), by omega, Fin.ext (by omega)⟩
  · rintro ⟨rfl, h, rfl⟩ a
    match a with
    | ⟨0, _⟩ =>
      show scatter_S16x50x64_S2450x1_S16x2450x64_02_1_1_1.start (ix3 b e k) idx 0 + ((scatter_S16x50x64_S2450x1_S16x2450x64_02_1_1_1.window (ix3 b e k) 0 : ℕ) : Int) = (b.val : Int)
      rw [h0, w0]; omega
    | ⟨1, _⟩ =>
      show scatter_S16x50x64_S2450x1_S16x2450x64_02_1_1_1.start (ix3 b e k) idx 1 + ((scatter_S16x50x64_S2450x1_S16x2450x64_02_1_1_1.window (ix3 b e k) 1 : ℕ) : Int) = (v.val : Int)
      rw [h1, w1, h]; omega
    | ⟨2, _⟩ =>
      show scatter_S16x50x64_S2450x1_S16x2450x64_02_1_1_1.start (ix3 b e k) idx 2 + ((scatter_S16x50x64_S2450x1_S16x2450x64_02_1_1_1.window (ix3 b e k) 2 : ℕ) : Int) = (k.val : Int)
      rw [h2, w2]; omega

end Cert.Proof.Ref
end
-- ==== Proof.Edges.lean ====
/- The sum over the edges that end at a node, as a sum over the nodes they come from. -/
module
public import proofs.«01_k».proof.Proof.Spec
public import Idealize.ShloMosaic.Lib.Pointwise
@[expose] public section
noncomputable section

namespace Cert.Proof.Edges

open Idealize.ShloMosaic Cert.Proof.Spec

/-- The sender of an edge. -/
def snd (e : Fin 2450) : Fin 50 := ⟨e.val / 49, by omega⟩

/-- The receiver of an edge. -/
def rcv (e : Fin 2450) : Fin 50 :=
  ⟨if e.val % 49 < e.val / 49 then e.val % 49 else e.val % 49 + 1, by split <;> omega⟩

/-- Edges are pairs of a sender and a rank among its receivers. -/
def pairs : Fin 50 × Fin 49 ≃ Fin 2450 := finProdFinEquiv

theorem pairs_val (s : Fin 50) (k : Fin 49) : (pairs (s, k)).val = s.val * 49 + k.val := by
  show k.val + 49 * s.val = _
  omega

theorem snd_pairs (s : Fin 50) (k : Fin 49) : snd (pairs (s, k)) = s := by
  apply Fin.ext
  show (pairs (s, k)).val / 49 = _
  rw [pairs_val]; omega

theorem rcv_pairs (s : Fin 50) (k : Fin 49) : rcv (pairs (s, k)) = s.succAbove k := by
  apply Fin.ext
  have h1 : (s.val * 49 + k.val) % 49 = k.val := by omega
  have h2 : (s.val * 49 + k.val) / 49 = s.val := by omega
  show (if (pairs (s, k)).val % 49 < (pairs (s, k)).val / 49 then (pairs (s, k)).val % 49
    else (pairs (s, k)).val % 49 + 1) = _
  rw [pairs_val, h1, h2]
  unfold Fin.succAbove
  by_cases h : k.val < s.val
  · rw [if_pos h, if_pos (show k.castSucc < s from h)]; rfl
  · rw [if_neg h, if_neg (show ¬ k.castSucc < s from h)]; rfl

/-- The edge from `s` to its `k`-th receiver carries that pair's weight. -/
theorem wgt_succAbove (e : Fin 2450 → Fin 4 → EReal) (i : Fin 4) (s : Fin 50) (k : Fin 49) :
    wgt e i s (s.succAbove k) = e (pairs (s, k)) i := by
  unfold wgt Fin.succAbove
  by_cases h : k.val < s.val
  · rw [if_pos (show k.castSucc < s from h), dif_pos (show k.castSucc.val < s.val from h)]
    exact congrArg (e · i) (Fin.ext (pairs_val s k).symm)
  · rw [if_neg (show ¬ k.castSucc < s from h)]
    have h1 : ¬ k.succ.val < s.val := by rw [Fin.val_succ]; omega
    have h2 : s.val < k.succ.val := by rw [Fin.val_succ]; omega
    rw [dif_neg h1, dif_pos h2]
    exact congrArg (e · i) (Fin.ext (by rw [pairs_val]; show s.val * 49 + k.succ.val - 1 = _; rw [Fin.val_succ]; omega))

/-- No weight from a node to itself. -/
theorem wgt_self (e : Fin 2450 → Fin 4 → EReal) (i : Fin 4) (s : Fin 50) : wgt e i s s = 0 := by
  unfold wgt
  rw [dif_neg (Nat.lt_irrefl _), dif_neg (Nat.lt_irrefl _)]

/-- Over the edges that end at `v`, the sum of what pairs of nodes give is the sum over the senders, if a
    node gives nothing to itself. -/
theorem sum_into (v : Fin 50) (g : Fin 50 → Fin 50 → EReal) (g0 : g v v = 0) :
    ∑ e ∈ Finset.univ.filter (fun e : Fin 2450 => rcv e = v), g (snd e) (rcv e) = ∑ s : Fin 50, g s v := by
  rw [Finset.sum_filter, ← Equiv.sum_comp pairs, Fintype.sum_prod_type]
  refine Finset.sum_congr rfl fun s _ => ?_
  simp only [snd_pairs, rcv_pairs]
  by_cases hs : s = v
  · subst hs
    rw [g0]
    exact Finset.sum_eq_zero fun k _ => if_neg (Fin.succAbove_ne s k)
  · obtain ⟨k, rfl⟩ := Fin.exists_succAbove_eq (Ne.symm hs)
    rw [Finset.sum_eq_single k]
    · rw [if_pos rfl]
    · intro k' _ hk
      exact if_neg fun h => hk (Fin.succAbove_right_injective h)
    · intro h; exact absurd (Finset.mem_univ _) h

/-- A third and then a forty-ninth is a hundred and forty-seventh, over a sum. -/
theorem scaled_sum {ι : Type} (S : Finset ι) (f1 f2 f3 : ι → EReal) :
    Ideal.div (∑ e ∈ S, (0 + Ideal.div (f1 e) ((3 : ℝ) : EReal) + Ideal.div (f2 e) ((3 : ℝ) : EReal)
      + Ideal.div (f3 e) ((3 : ℝ) : EReal))) ((49 : ℝ) : EReal)
    = (∑ e ∈ S, (((1 / 147 : ℝ) : EReal) * f1 e)) + (∑ e ∈ S, (((1 / 147 : ℝ) : EReal) * f2 e))
      + ∑ e ∈ S, (((1 / 147 : ℝ) : EReal) * f3 e) := by
  have c : ∀ x : EReal, Ideal.div x ((3 : ℝ) : EReal) = x * ((1 / 3 : ℝ) : EReal) :=
    Ideal.div_coe (by norm_num)
  have d : ∀ x : EReal, Ideal.div x ((49 : ℝ) : EReal) = x * ((1 / 49 : ℝ) : EReal) :=
    Ideal.div_coe (by norm_num)
  have p0 : (0 : EReal) ≤ ((1 / 49 : ℝ) : EReal) := by exact_mod_cast (by norm_num : (0 : ℝ) ≤ 1 / 49)
  have pt : ((1 / 49 : ℝ) : EReal) ≠ ⊤ := EReal.coe_ne_top _
  have m : ∀ x : EReal, ((1 / 49 : ℝ) : EReal) * (x * ((1 / 3 : ℝ) : EReal)) = ((1 / 147 : ℝ) : EReal) * x := by
    intro x
    rw [mul_comm x, ← mul_assoc, ← EReal.coe_mul]
    norm_num
  rw [d, mul_comm]
  have dist : ∀ (T : Finset ι) (f : ι → EReal),
      ((1 / 49 : ℝ) : EReal) * ∑ e ∈ T, f e = ∑ e ∈ T, ((1 / 49 : ℝ) : EReal) * f e := by
    intro T f
    classical
    induction T using Finset.induction_on with
    | empty => simp
    | insert a T ha ih =>
      rw [Finset.sum_insert ha, Finset.sum_insert ha, EReal.left_distrib_of_nonneg_of_ne_top p0 pt, ih]
  rw [dist, ← Finset.sum_add_distrib, ← Finset.sum_add_distrib]
  refine Finset.sum_congr rfl fun e _ => ?_
  rw [c, c, c, zero_add, EReal.left_distrib_of_nonneg_of_ne_top p0 pt,
    EReal.left_distrib_of_nonneg_of_ne_top p0 pt, m, m, m]

end Cert.Proof.Edges
end
-- ==== Proof.RefStep.lean ====
/- What one trip of the reference's loop computes, at an index. -/
module

public import proofs.«01_k».proof.Proof.Gen.ReferenceIdeal.Step
public import proofs.«01_k».proof.Proof.EdgeMoves
public import proofs.«01_k».proof.Proof.Edges

@[expose] public section

set_option maxRecDepth 16384

noncomputable section

namespace Cert.Proof.Ref

open Idealize.ShloMosaic Cert.ReferenceIdeal Cert.ReferenceIdeal.Step Cert.Proof.Spec Cert.Proof.Edges

/-- The weights a state holds. -/
def wts (s : State Ideal) : Weights where
  m1 i q k := s.main_v12_2 (ix3 i q k)
  m1b i k := s.main_v12_3 (ix2 i k)
  m2 i q k := s.main_v12_4 (ix3 i q k)
  m2b i k := s.main_v12_5 (ix2 i k)
  hr q k := s.main_v12_9 (ix2 q k)
  hi q k := s.main_v12_12 (ix2 q k)
  hn q k := s.main_v12_15 (ix2 q k)
  ir q k := s.main_v12_7 (ix2 q k)
  irb k := s.main_v12_8 (ix1 k)
  ii q k := s.main_v12_10 (ix2 q k)
  iib k := s.main_v12_11 (ix1 k)
  inn q k := s.main_v12_13 (ix2 q k)
  inb k := s.main_v12_14 (ix1 k)
  o1 q k := s.main_v12_16 (ix2 q k)
  o1b k := s.main_v12_17 (ix1 k)
  o2 q k := s.main_v12_18 (ix2 q k)
  o2b k := s.main_v12_19 (ix1 k)
  o3 q k := s.main_v12_20 (ix2 q k)
  o3b k := s.main_v12_21 (ix1 k)

/-- The edges' weights of element `b` of the batch. -/
def edg (s : State Ideal) (b : Fin 16) (e : Fin 2450) (i : Fin 4) : EReal := s.main_v12_6 (ix3 b e i)

/-- The hidden rows of element `b` of the batch. -/
def hidden (s : State Ideal) (b : Fin 16) (v : Fin 50) (k : Fin 64) : EReal := s.main_v12_23 (ix3 b v k)

/-- The positions of element `b` of the batch. -/
def place (s : State Ideal) (b : Fin 16) (v : Fin 50) (d : Fin 4) : EReal := s.main_v12_24 (ix3 b v d)

variable (j : ℕ) (s : State Ideal)

/-! ## The lists of senders and receivers -/

/-- Place `e` of the list of receivers. -/
theorem recv_word (e : Fin 2450) : K_main_v7 (F := Ideal) (ix1 e) = BitVec.ofNat 32 (rcv e).val := by
  pointwise [K_main_v7, K_main_v6, K_main_v5, K_main_v4, K_main_v3, K_main_v1, K_main_v0, K_main_c]
  have h1 : e.val % 49 < 49 := Nat.mod_lt _ (by omega)
  have h2 : e.val / 49 < 50 := by omega
  rw [WordCmp.cmpi_slt_ofNat (by omega) (by omega), WordCmp.select_decide]
  show _ = BitVec.ofNat 32 (if e.val % 49 < e.val / 49 then e.val % 49 else e.val % 49 + 1)
  split
  · rfl
  · exact WordCmp.addi_ofNat _ _

/-- Place `e` of the list of senders. -/
theorem send_word (e : Fin 2450) : K_main_v2 (F := Ideal) (ix1 e) = BitVec.ofNat 32 (snd e).val := by
  pointwise [K_main_v2, K_main_v0]
  rfl

/-- The index of the receiver of edge `e`, where messages land. -/
theorem recv_int (e : Fin 2450) : (b98 j s (ix2 e 0)).toInt = ((rcv e).val : Int) := by
  pointwise [b98]
  rw [recv_word]
  exact WordCmp.toInt_ofNat_of_lt (by have := (rcv e).isLt; omega)

/-- The index of the receiver of edge `e`, where rows are read. -/
theorem recv_int' (e : Fin 2450) : (b7 j s (ix2 e 0)).toInt = ((rcv e).val : Int) := by
  pointwise [b7, b6, b5, b4, b3, b2, b1, b0]
  have := (rcv e).isLt
  rw [recv_word, Routing.wrap_of_lt _ _ (by rw [WordCmp.toNat_ofNat_of_lt (by omega)]; omega)]
  exact WordCmp.toInt_ofNat_of_lt (by omega)

/-- The index of the sender of edge `e`. -/
theorem send_int (e : Fin 2450) : (b16 j s (ix2 e 0)).toInt = ((snd e).val : Int) := by
  pointwise [b16, b15, b14, b13, b12, b11, b10, b9]
  have := (snd e).isLt
  rw [send_word, Routing.wrap_of_lt _ _ (by rw [WordCmp.toNat_ofNat_of_lt (by omega)]; omega)]
  exact WordCmp.toInt_ofNat_of_lt (by omega)

/-! ## Messages -/

/-- The first 64 columns along an edge are its receiver's hidden row. -/
theorem pair_low (b : Fin 16) (e : Fin 2450) (q : Fin 64) :
    b18 j s (ix3 b e (Fin.castAdd 64 q : Fin 128)) = hidden s b (rcv e) q := by
  rw [show (Fin.castAdd 64 q : Fin 128) = ⟨q.val, by omega⟩ from rfl]
  pointwise [b18]
  unfold b8
  exact gather_at _ _ b e q _ (recv_int' j s e)

/-- The others are its sender's. -/
theorem pair_high (b : Fin 16) (e : Fin 2450) (q : Fin 64) :
    b18 j s (ix3 b e (Fin.natAdd 64 q : Fin 128)) = hidden s b (snd e) q := by
  rw [show (Fin.natAdd 64 q : Fin 128) = ⟨64 + q.val, by omega⟩ from rfl]
  pointwise [b18]
  unfold b17
  exact gather_at _ _ b e q _ (send_int j s e)

/-- The first layer's product along an edge, cut at the middle. -/
theorem layer_split (b : Fin 16) (e : Fin 2450) (w : Fin 128 → EReal) (c : EReal) :
    (∑ x : Fin 128, b18 j s (ix3 b e x) * w x) + c
      = (∑ q : Fin 64, hidden s b (snd e) q * w (Fin.natAdd 64 q))
        + ((∑ q : Fin 64, hidden s b (rcv e) q * w (Fin.castAdd 64 q)) + c) := by
  have h : (∑ x : Fin 128, b18 j s (ix3 b e x) * w x) = (∑ q : Fin 64, hidden s b (rcv e) q * w (Fin.castAdd 64 q))
      + ∑ q : Fin 64, hidden s b (snd e) q * w (Fin.natAdd 64 q) := by
    rw [Fin.sum_univ_add (a := 64) (b := 64)]
    simp only [pair_low, pair_high]
  rw [h, add_comm (∑ q : Fin 64, hidden s b (rcv e) q * w (Fin.castAdd 64 q)), add_assoc]

/-- The first layer of type 1 along an edge. -/
theorem hid1 (b : Fin 16) (e : Fin 2450) (q : Fin 64) :
    b29 j s (ix3 b e q) = hid (wts s) (hidden s b) 1 (snd e) (rcv e) q := by
  pointwise [b29, b28, b27, b26, b25, b24, b23, b22, b21]
  rw [layer_split j s b e (fun x => s.main_v12_2 (ix3 1 x q))]
  rfl

/-- The first layer of type 2 along an edge. -/
theorem hid2 (b : Fin 16) (e : Fin 2450) (q : Fin 64) :
    b54 j s (ix3 b e q) = hid (wts s) (hidden s b) 2 (snd e) (rcv e) q := by
  pointwise [b54, b53, b52, b51, b50, b49, b48, b47, b46]
  rw [layer_split j s b e (fun x => s.main_v12_2 (ix3 2 x q))]
  rfl

/-- The first layer of type 3 along an edge. -/
theorem hid3 (b : Fin 16) (e : Fin 2450) (q : Fin 64) :
    b79 j s (ix3 b e q) = hid (wts s) (hidden s b) 3 (snd e) (rcv e) q := by
  pointwise [b79, b78, b77, b76, b75, b74, b73, b72, b71]
  rw [layer_split j s b e (fun x => s.main_v12_2 (ix3 3 x q))]
  rfl

/-- The message of type 1 along an edge. -/
theorem msg1 (b : Fin 16) (e : Fin 2450) (k : Fin 64) :
    b38 j s (ix3 b e k) = msg (wts s) (hidden s b) 1 (snd e) (rcv e) k := by
  pointwise [b38, b37, b36, b35, b34, b33, b32, b31, b30]
  simp only [hid1]
  rfl

/-- The message of type 2 along an edge. -/
theorem msg2 (b : Fin 16) (e : Fin 2450) (k : Fin 64) :
    b63 j s (ix3 b e k) = msg (wts s) (hidden s b) 2 (snd e) (rcv e) k := by
  pointwise [b63, b62, b61, b60, b59, b58, b57, b56, b55]
  simp only [hid2]
  rfl

/-- The message of type 3 along an edge. -/
theorem msg3 (b : Fin 16) (e : Fin 2450) (k : Fin 64) :
    b88 j s (ix3 b e k) = msg (wts s) (hidden s b) 3 (snd e) (rcv e) k := by
  pointwise [b88, b87, b86, b85, b84, b83, b82, b81, b80]
  simp only [hid3]
  rfl

/-- The word of three is three. -/
theorem three : Ideal.ofBits .f32 0x40400000#32 = ((3 : ℝ) : EReal) := by
  simp [Ideal.ofBits, Ideal.ieee, -EReal.coe_mul]; norm_num

/-- The word of forty-nine is forty-nine. -/
theorem fortynine : Ideal.ofBits .f32 0x42440000#32 = ((49 : ℝ) : EReal) := by
  simp [Ideal.ofBits, Ideal.ieee, -EReal.coe_mul]; norm_num

/-- The message of type `i` along an edge, times the edge's weight. -/
def along (b : Fin 16) (k : Fin 64) (i : Fin 4) (e : Fin 2450) : EReal :=
  msg (wts s) (hidden s b) i (snd e) (rcv e) k * edg s b e i

/-- What travels along an edge. -/
theorem all_msgs (b : Fin 16) (e : Fin 2450) (k : Fin 64) :
    b95 j s (ix3 b e k) = 0 + Ideal.div (along s b k 1 e) ((3 : ℝ) : EReal) + Ideal.div (along s b k 2 e) ((3 : ℝ) : EReal)
      + Ideal.div (along s b k 3 e) ((3 : ℝ) : EReal) := by
  have h1 : b45 j s (ix3 b e k) = 0 + Ideal.div (along s b k 1 e) ((3 : ℝ) : EReal) := by
    pointwise [b45, b44, b43, b42, b41, b40, b39, b20, b19]
    rw [msg1, three]; rfl
  have h2 : b70 j s (ix3 b e k) = b45 j s (ix3 b e k) + Ideal.div (along s b k 2 e) ((3 : ℝ) : EReal) := by
    pointwise [b70, b69, b68, b67, b66, b65, b64]
    rw [msg2, three]; rfl
  have h3 : b95 j s (ix3 b e k) = b70 j s (ix3 b e k) + Ideal.div (along s b k 3 e) ((3 : ℝ) : EReal) := by
    pointwise [b95, b94, b93, b92, b91, b90, b89]
    rw [msg3, three]; rfl
  rw [h3, h2, h1]

/-- What lands at a node: the sum over the edges that end there. -/
theorem landed (b : Fin 16) (v : Fin 50) (k : Fin 64) :
    b100 j s (ix3 b v k) = ∑ e ∈ Finset.univ.filter (fun e : Fin 2450 => rcv e = v), b95 j s (ix3 b e k) := by
  have h0 : b99 j s (ix3 b v k) = 0 := by pointwise [b99, b97, b96]
  show b99 j s (ix3 b v k) + ∑ p ∈ Finset.univ.filter (fun p => scatter_S16x50x64_S2450x1_S16x2450x64_02_1_1_1.resultIdx? p (b98 j s)
    = some (ix3 b v k)), b95 j s p = _
  rw [h0, zero_add]
  symm
  refine Finset.sum_bij (fun e _ => (ix3 b e k : S16x2450x64.Idx)) ?_ ?_ ?_ ?_
  · intro e he
    rw [Finset.mem_filter] at he
    rw [Finset.mem_filter]
    refine ⟨Finset.mem_univ _, (lands_at _ b e k b v k).2 ⟨rfl, ?_, rfl⟩⟩
    rw [recv_int, he.2]
  · intro e _ e' _ h
    exact congrFun h 1
  · intro p hp
    rw [Finset.mem_filter] at hp
    obtain ⟨p0, p1, p2, rfl⟩ : ∃ p0 p1 p2, p = ix3 p0 p1 p2 := ⟨_, _, _, eq_ix3 p⟩
    obtain ⟨rfl, h, rfl⟩ := (lands_at _ p0 p1 p2 b v k).1 hp.2
    refine ⟨p1, ?_, rfl⟩
    rw [Finset.mem_filter]
    refine ⟨Finset.mem_univ _, Fin.ext ?_⟩
    rw [recv_int] at h
    exact_mod_cast h
  · intro e _; rfl

/-- What a node receives. -/
theorem received (b : Fin 16) (v : Fin 50) (k : Fin 64) :
    b103 j s (ix3 b v k) = agg ((1 / 147 : ℝ) : EReal) (wts s) (edg s b) (hidden s b) v k := by
  have part : ∀ i : Fin 4, ∑ e ∈ Finset.univ.filter (fun e : Fin 2450 => rcv e = v), ((1 / 147 : ℝ) : EReal) * along s b k i e
      = recvd ((1 / 147 : ℝ) : EReal) (wts s) (edg s b) (hidden s b) i v k := by
    intro i
    have w : ∀ e : Fin 2450, edg s b e i = wgt (edg s b) i (snd e) (rcv e) := by
      intro e
      obtain ⟨⟨a, c⟩, rfl⟩ := pairs.surjective e
      rw [snd_pairs, rcv_pairs, wgt_succAbove]
    rw [recvd, ← sum_into v (fun x y => ((1 / 147 : ℝ) : EReal) * wgt (edg s b) i x y * msg (wts s) (hidden s b) i x y k)
      (by rw [wgt_self, mul_zero, zero_mul])]
    refine Finset.sum_congr rfl fun e _ => ?_
    rw [along, w e, mul_assoc, mul_comm (msg _ _ _ _ _ _)]
  pointwise [b103, b102, b101]
  rw [landed, fortynine]
  simp only [all_msgs]
  rw [scaled_sum, part, part, part]
  rfl

/-! ## The gates and the output layers -/

/-- The gate that scales the new content. -/
theorem gate_r (b : Fin 16) (v : Fin 50) (k : Fin 64) :
    b117 j s (ix3 b v k) = gateR (wts s) (agg ((1 / 147 : ℝ) : EReal) (wts s) (edg s b) (hidden s b) v) (place s b v) k := by
  pointwise [b117, b116, b115, b114, b113, b112, b111, b110, b109, b108, b107, b106, b105, b104]
  simp only [received]
  rfl

/-- The gate that mixes old and new. -/
theorem gate_i (b : Fin 16) (v : Fin 50) (k : Fin 64) :
    b131 j s (ix3 b v k) = gateI (wts s) (agg ((1 / 147 : ℝ) : EReal) (wts s) (edg s b) (hidden s b) v) (place s b v) k := by
  pointwise [b131, b130, b129, b128, b127, b126, b125, b124, b123, b122, b121, b120, b119, b118]
  simp only [received]
  rfl

/-- The new content. -/
theorem content (b : Fin 16) (v : Fin 50) (k : Fin 64) :
    b139 j s (ix3 b v k) = fresh (wts s) (agg ((1 / 147 : ℝ) : EReal) (wts s) (edg s b) (hidden s b) v) (place s b v) k := by
  pointwise [b139, b138, b137, b136, b135, b134, b133, b132]
  simp only [received, gate_r]
  rfl

/-- The hidden rows after a trip. -/
theorem new_hidden (b : Fin 16) (v : Fin 50) (k : Fin 64) :
    b145 j s (ix3 b v k) = nextH ((1 / 147 : ℝ) : EReal) (wts s) (edg s b) (hidden s b) (place s b) v k := by
  pointwise [b145, b144, b143, b142, b141, b140]
  rw [gate_i, content]
  rfl

/-- The first output layer. -/
theorem first_out (b : Fin 16) (v : Fin 50) (k : Fin 64) :
    b152 j s (ix3 b v k) = out1 (wts s) (nextH ((1 / 147 : ℝ) : EReal) (wts s) (edg s b) (hidden s b) (place s b) v) k := by
  pointwise [b152, b151, b150, b149, b148, b147, b146]
  simp only [new_hidden]
  rfl

/-- The second output layer. -/
theorem second_out (b : Fin 16) (v : Fin 50) (k : Fin 64) :
    b159 j s (ix3 b v k) = out2 (wts s) (nextH ((1 / 147 : ℝ) : EReal) (wts s) (edg s b) (hidden s b) (place s b) v) k := by
  pointwise [b159, b158, b157, b156, b155, b154, b153]
  simp only [first_out]
  rfl

/-- The positions after a trip. -/
theorem new_place (b : Fin 16) (v : Fin 50) (d : Fin 4) :
    b164 j s (ix3 b v d) = nextX ((1 / 147 : ℝ) : EReal) (wts s) (edg s b) (hidden s b) (place s b) v d := by
  pointwise [b164, b163, b162, b161, b160]
  simp only [second_out]
  rfl

/-- The list of positions after trip `j`: row `j` is the new positions, the others are kept. -/
theorem new_rows (hj : j < 12) (r : Fin 12) (b : Fin 16) (v : Fin 50) (d : Fin 4) :
    b169 j s (ix4 r b v d) = if r.val = j then b164 j s (ix3 b v d) else s.main_v12_25 (ix4 r b v d) := by
  have hk : S12x16x50x4.Slices ![j, 0, 0, 0] S1x16x50x4 := by
    refine ⟨rfl, fun a => ?_⟩
    match a with
    | ⟨0, _⟩ => show j + 1 ≤ 12; omega
    | ⟨1, _⟩ => show 0 + 16 ≤ 16; omega
    | ⟨2, _⟩ => show 0 + 50 ≤ 50; omega
    | ⟨3, _⟩ => show 0 + 4 ≤ 4; omega
  unfold b169
  rw [WordCmp.dynamicUpdateSlice_eq_update _ _ _ _ ![j, 0, 0, 0] hk (fun a => by
    match a with
    | ⟨0, _⟩ => exact WordCmp.toInt_ofNat_of_lt (by omega)
    | ⟨1, _⟩ => rfl
    | ⟨2, _⟩ => rfl
    | ⟨3, _⟩ => rfl)]
  pointwise [b165]
  by_cases h : r.val = j
  · simp [h]
  · rw [if_neg h, dif_neg (by omega)]

end Cert.Proof.Ref
end
-- ==== Proof.RefResult.lean ====
/- What the reference returns: row `t` of its result is the positions after `t + 1` steps. -/
module

public import proofs.«01_k».proof.Proof.RefStep
public import proofs.«01_k».proof.Proof.RefRun

@[expose] public section

set_option maxRecDepth 16384

noncomputable section

namespace Cert.Proof.Ref

open Idealize.ShloMosaic Cert.ReferenceIdeal Cert.ReferenceIdeal.Step Cert.Proof.Spec

/-- The states of the loop, from the first. -/
def trips (s : State Ideal) : ℕ → State Ideal
  | 0 => s
  | n + 1 => step n (trips s n)

variable (s : State Ideal)

/-- No trip changes the weights. -/
theorem wts_trips : ∀ n, wts (trips s n) = wts s
  | 0 => rfl
  | n + 1 => (show wts (step n (trips s n)) = wts (trips s n) from rfl).trans (wts_trips n)

/-- No trip changes the edges' weights. -/
theorem edg_trips (b : Fin 16) : ∀ n, edg (trips s n) b = edg s b
  | 0 => rfl
  | n + 1 => (show edg (step n (trips s n)) b = edg (trips s n) b from rfl).trans (edg_trips b n)

/-- Hidden rows and positions of element `b` after `n` trips, if the loop starts at zero hidden rows. -/
theorem after_trips (b : Fin 16) (h0 : hidden s b = fun _ _ => 0) : ∀ n,
    hidden (trips s n) b = (run ((1 / 147 : ℝ) : EReal) (wts s) (edg s b) (place s b) n).1
    ∧ place (trips s n) b = (run ((1 / 147 : ℝ) : EReal) (wts s) (edg s b) (place s b) n).2
  | 0 => ⟨h0, rfl⟩
  | n + 1 => by
    obtain ⟨h, p⟩ := after_trips b h0 n
    constructor
    · funext v k
      show (step n (trips s n)).main_v12_23 (ix3 b v k) = _
      rw [step_main_v12_23, new_hidden, wts_trips, edg_trips, h, p]
      rfl
    · funext v d
      show (step n (trips s n)).main_v12_24 (ix3 b v d) = _
      rw [step_main_v12_24, new_place, wts_trips, edg_trips, h, p]
      rfl

/-- The rows written so far: row `r` is the positions after `r + 1` steps. -/
theorem rows_trips (b : Fin 16) (h0 : hidden s b = fun _ _ => 0) (v : Fin 50) (d : Fin 4) : ∀ n, n ≤ 12 →
    ∀ r : Fin 12, r.val < n → (trips s n).main_v12_25 (ix4 r b v d)
      = (run ((1 / 147 : ℝ) : EReal) (wts s) (edg s b) (place s b) (r.val + 1)).2 v d
  | 0, _, r, hr => absurd hr (by omega)
  | n + 1, hn, r, hr => by
    show (step n (trips s n)).main_v12_25 (ix4 r b v d) = _
    rw [step_main_v12_25, new_rows n _ (by omega)]
    by_cases h : r.val = n
    · rw [if_pos h, h, ← step_main_v12_24]
      exact congrFun (congrFun (after_trips s b h0 (n + 1)).2 v) d
    · rw [if_neg h]
      exact rows_trips b h0 v d n (by omega) r (by omega)

/-- The result, at an index. -/
theorem result_at (b : Fin 16) (h0 : hidden s b = fun _ _ => 0) (t : Fin 12) (v : Fin 50) (d : Fin 4) :
    R_main_v13 (trips s 12) (ix4 b t v d)
      = (run ((1 / 147 : ℝ) : EReal) (wts s) (edg s b) (place s b) (t.val + 1)).2 v d := by
  pointwise [R_main_v13]
  exact rows_trips s b h0 v d 12 (Nat.le_refl _) t t.isLt

/-- The loop starts at zero hidden rows. -/
theorem starts_at_zero (m : (ℓ : Loc nD τ sig) → Buf (Elt Ideal) ℓ) (c : Dev nD) (b : Fin 16) :
    hidden (StepRun.initState m c) b = fun _ _ => 0 := by
  funext v k
  show (K_main_v8 (F := Ideal)) (ix3 b v k) = 0
  pointwise [K_main_v8, K_main_cst]

end Cert.Proof.Ref
end
-- ==== Proof.Algebraic.lean ====
/- In exact arithmetic kernel and reference return the same array. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KerResult
public import proofs.«01_k».proof.Proof.RefResult

@[expose] public section

set_option maxRecDepth 16384

noncomputable section

namespace Cert.Proof

open Idealize.ShloMosaic Idealize.ShloMosaic.TcCoe Idealize.SL.Sem Cert.ReferenceIdeal

/-- Kernel and reference, from equal arguments, return equal arrays in exact arithmetic. -/
theorem algebraic : Cert.algebraic_KernelIdeal_ReferenceIdeal := by
  intro m ρ m' ρ' _ hagree
  refine ⟨fun c => (Cert.KernelIdeal.Gen.dats m 0 c).arrAt 24 Cert.KernelIdeal.cfg0.N,
    Cert.KernelIdeal.Value.run_blocks (F := Ideal) m ρ, ?_⟩
  have hrun := Cert.ReferenceIdeal.StepRun.run_iter (F := Ideal) m' ρ'
    (fun c => Ref.trips (Cert.ReferenceIdeal.StepRun.initState m' c)) (fun c => rfl) (fun c n => rfl)
  refine (θ_run _ _ _).mono (fun _ h c => ⟨(h c).1.trans ?_, (h c).2⟩) hrun
  obtain ⟨h0, h1, h2, h3, h4, h5, h6, h7, h8, h9, h10, h11, h12, h13, h14, h15, h16, h17, h18, h19, h20⟩ := hagree c
  have hw : Ref.wts (Cert.ReferenceIdeal.StepRun.initState m' c) = Ker.weights m c := by
    simp only [Ker.weights, ← h2, ← h3, ← h4, ← h5, ← h6, ← h7, ← h8, ← h9, ← h10, ← h11, ← h12, ← h13, ← h14, ← h15,
      ← h16, ← h17, ← h18, ← h19, ← h20]
    rfl
  funext i
  obtain ⟨b, r, v, d, rfl⟩ : ∃ (b : Fin 16) (r : Fin 12) (v : Fin 50) (d : Fin 4), i = ix4 b r v d := ⟨i 0, i 1, i 2, i 3, by
    funext a
    match a with
    | ⟨0, _⟩ => rfl
    | ⟨1, _⟩ => rfl
    | ⟨2, _⟩ => rfl
    | ⟨3, _⟩ => rfl⟩
  have he : Ref.edg (Cert.ReferenceIdeal.StepRun.initState m' c) b = Ker.edges m c b := by
    funext e k
    simp only [Ker.edges, ← h1]
    rfl
  have hp : Ref.place (Cert.ReferenceIdeal.StepRun.initState m' c) b = Ker.places m c b := by
    funext v d
    simp only [Ker.places, ← h0]
    show (Step.A_main_v10 (F := Ideal) (m' ((c.tc : Thread nD τ).loc main_arg0))) (ix3 b v d) = _
    generalize m' ((c.tc : Thread nD τ).loc main_arg0) = x
    pointwise [Step.A_main_v10, Step.A_main_v9]
  refine (Ref.result_at _ b (Ref.starts_at_zero m' c b) r v d).trans ?_
  rw [hw, he, hp]
  exact (Ker.result_at m c b r v d).symm

end Cert.Proof
end
-- ==== Proof.lean ====
/- The five claims: kernel and reference run and keep their arguments, the exact kernel differs from the
   kernel in the named scale alone, and in exact arithmetic kernel and reference return the same array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealFrame
public import proofs.«01_k».proof.Proof.Gen.ReferenceIdeal
public import proofs.«01_k».proof.Proof.IdealValue
public import proofs.«01_k».proof.Proof.Gen.ReferenceIdeal.Run
public import proofs.«01_k».proof.Proof.Gen.ReferenceIdeal.Step
public import proofs.«01_k».proof.Proof.RefRun
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel runs, keeps its arguments and leaves every counter at zero. -/
theorem kernel_frame : Cert.quiescent_Kernel := fun m ρ _ => Cert.Kernel.Gen.frame m ρ

/-- The exact kernel runs, keeps its arguments and leaves every counter at zero. -/
theorem ideal_frame : Cert.quiescent_KernelIdeal := fun m ρ _ => Cert.KernelIdeal.Gen.frame m ρ

/-- The exact reference runs, keeps its arguments and leaves every counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.StepRun.run_iter m ρ (fun c => Ref.trips (Cert.ReferenceIdeal.StepRun.initState m c))
      (fun _ => rfl) (fun _ _ => rfl))

/-- The scale's word is a 147th, rounded. -/
theorem preserves : Cert.preserves_Kernel_KernelIdeal :=
  IdealRules.named_const.statement Cert.KernelIdeal.κ "scale" .f32 0x3BDEE95C#32 ((1 / 147 : ℝ) : EReal) rfl

/-- All five claims. -/
theorem claim : Cert.Claim := ⟨Cert.Kernel.Gen.facts, Cert.KernelIdeal.Gen.facts, Cert.ReferenceIdeal.Gen.facts,
  kernel_frame, ideal_frame, reference_frame, preserves, algebraic⟩

end Cert.Proof

end
